-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gt_finite [hPre_gt_finite : Cert.Pre_gt_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gt_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gt_finite [hPre_gt_finite : Cert.Pre_gt_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gt_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gt_finite [hKernelIdeal : Cert.KernelIdeal.Facts] [hPre_gt_finite : Cert.Pre_gt_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gt_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gt_finite [hReferenceIdeal : Cert.ReferenceIdeal.Facts] [hPre_gt_finite : Cert.Pre_gt_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gt_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_gt_finite [hKernelIdeal : Cert.KernelIdeal.Facts] [hReferenceIdeal : Cert.ReferenceIdeal.Facts] [hPre_gt_finite : Cert.Pre_gt_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gt_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v17)) (v4 : (c : Dev Cert.KernelIdeal.nD) → Buf (Elt Ideal) ((c.tc : Thread Cert.KernelIdeal.nD Cert.KernelIdeal.τ).loc Cert.KernelIdeal.main_v19)) (v5 : (c : Dev Cert.KernelIdeal.nD) → Buf (Elt Ideal) ((c.tc : Thread Cert.KernelIdeal.nD Cert.KernelIdeal.τ).loc Cert.KernelIdeal.main_v9_0)) (v6 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_v19) = v4 c
          ∧ r.2.mem ((c.tc : Thread Cert.KernelIdeal.nD Cert.KernelIdeal.τ).loc Cert.KernelIdeal.main_v9_0) = v5 c
          ∧ r.2.mem ((c.tc : Thread Cert.KernelIdeal.nD Cert.KernelIdeal.τ).loc Cert.KernelIdeal.main_v9_1) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_v201) = v2 c
          ∧ r.2.mem ((c.tc : Thread Cert.ReferenceIdeal.nD Cert.ReferenceIdeal.τ).loc Cert.ReferenceIdeal.main_v239) = v3 c
          ∧ r.2.mem ((c.tc : Thread Cert.ReferenceIdeal.nD Cert.ReferenceIdeal.τ).loc Cert.ReferenceIdeal.main_v275) = v4 c
          ∧ r.2.mem ((c.tc : Thread Cert.ReferenceIdeal.nD Cert.ReferenceIdeal.τ).loc Cert.ReferenceIdeal.main_v281) = v5 c
          ∧ r.2.mem ((c.tc : Thread Cert.ReferenceIdeal.nD Cert.ReferenceIdeal.τ).loc Cert.ReferenceIdeal.main_v282) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_gt_finite : Cert.Pre_gt_finite.Facts),
    quiescent_Kernel (hKernel := hKernel)
    ∧ quiescent_KernelIdeal (hKernelIdeal := hKernelIdeal)
    ∧ quiescent_KernelIdeal_pre_gt_finite (hKernelIdeal := hKernelIdeal) (hPre_gt_finite := hPre_gt_finite)
    ∧ quiescent_ReferenceIdeal (hReferenceIdeal := hReferenceIdeal)
    ∧ quiescent_ReferenceIdeal_pre_gt_finite (hReferenceIdeal := hReferenceIdeal) (hPre_gt_finite := hPre_gt_finite)
    ∧ preserves_Kernel_KernelIdeal
    ∧ algebraic_KernelIdeal_ReferenceIdeal_pre_gt_finite (hKernelIdeal := hKernelIdeal) (hReferenceIdeal := hReferenceIdeal) (hPre_gt_finite := hPre_gt_finite)
-- ==== Pre_gt_finite.lean ====
abbrev S8192x512x4 : Shape := ⟨3, ![8192, 512, 4]⟩
abbrev S8192x4 : Shape := ⟨2, ![8192, 4]⟩
abbrev S_ : Shape := ⟨0, ![]⟩

class Facts : Prop where
  bcast_S_S8192x4 : S_.BroadcastsInDim S8192x4 (![] : Fin 0 → Fin S8192x4.rank)

variable [Facts]

def fn {F : FTy → Type} [FloatOps F] (main_arg0 : FVec F S8192x512x4 .f32) (main_arg1 : FVec F S8192x4 .f32) (main_arg2 : FVec F S8192x4 .f32) : IVec S8192x4 1 :=
  let main_cst : FVec F S_ .f32 := constant S_ .f32 0xFF800000#32
  let main_v0 : FVec F S8192x4 .f32 := broadcastInDim S8192x4 ![] bcast_S_S8192x4 main_cst
  let main_v1 : IVec S8192x4 1 := cmpf .ogt main_arg1 main_v0
  let main_cst_0 : FVec F S_ .f32 := constant S_ .f32 0x7F800000#32
  let main_v2 : FVec F S8192x4 .f32 := broadcastInDim S8192x4 ![] bcast_S_S8192x4 main_cst_0
  let main_v3 : IVec S8192x4 1 := cmpf .olt main_arg1 main_v2
  let main_v4 : IVec S8192x4 1 := andi main_v1 main_v3
  main_v4
-- ==== Kernel.lean ====
abbrev S8192x512x4 : Shape := ⟨3, ![8192, 512, 4]⟩
abbrev S8192x4 : Shape := ⟨2, ![8192, 4]⟩
abbrev S4x8192x512 : Shape := ⟨3, ![4, 8192, 512]⟩
abbrev S1x8192x512 : Shape := ⟨3, ![1, 8192, 512]⟩
abbrev S8192x512 : Shape := ⟨2, ![8192, 512]⟩
abbrev S1x64 : Shape := ⟨2, ![1, 64]⟩
abbrev S256x512 : Shape := ⟨2, ![256, 512]⟩
abbrev S256x4 : Shape := ⟨2, ![256, 4]⟩
abbrev S256x1 : Shape := ⟨2, ![256, 1]⟩
abbrev S256 : Shape := ⟨1, ![256]⟩
abbrev S256x64 : Shape := ⟨2, ![256, 64]⟩
abbrev S64 : Shape := ⟨1, ![64]⟩
abbrev S1x256x512 : Shape := ⟨3, ![1, 256, 512]⟩
abbrev S1 : Shape := ⟨1, ![1]⟩
abbrev S1x1x1 : Shape := ⟨3, ![1, 1, 1]⟩
abbrev S1x50 : Shape := ⟨2, ![1, 50]⟩
abbrev S50 : Shape := ⟨1, ![50]⟩

abbrev nBuf : Space → Nat
  | .hbm => 29
  | .vmem => 21
  | .smem => 0
  | _ => 0

abbrev bufTy : (tb : Table) → Fin (tcTables nBuf tb) → BufTy
  | .hbm, ⟨0, _⟩ => ⟨S8192x512x4, .f32⟩
  | .hbm, ⟨1, _⟩ => ⟨S8192x4, .f32⟩
  | .hbm, ⟨2, _⟩ => ⟨S8192x4, .f32⟩
  | .hbm, ⟨3, _⟩ => ⟨S4x8192x512, .f32⟩
  | .hbm, ⟨4, _⟩ => ⟨S1x8192x512, .f32⟩
  | .hbm, ⟨5, _⟩ => ⟨S8192x512, .f32⟩
  | .hbm, ⟨6, _⟩ => ⟨S1x8192x512, .f32⟩
  | .hbm, ⟨7, _⟩ => ⟨S8192x512, .f32⟩
  | .hbm, ⟨8, _⟩ => ⟨S1x8192x512, .f32⟩
  | .hbm, ⟨9, _⟩ => ⟨S8192x512, .f32⟩
  | .hbm, ⟨10, _⟩ => ⟨S1x8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x50, .f32⟩
  | .hbm, ⟨20, _⟩ => ⟨S50, .f32⟩
  | .hbm, ⟨21, _⟩ => ⟨S1x50, .f32⟩
  | .hbm, ⟨22, _⟩ => ⟨S50, .f32⟩
  | .hbm, ⟨23, _⟩ => ⟨S1x50, .f32⟩
  | .hbm, ⟨24, _⟩ => ⟨S50, .f32⟩
  | .hbm, ⟨25, _⟩ => ⟨S1x50, .f32⟩
  | .hbm, ⟨26, _⟩ => ⟨S50, .f32⟩
  | .hbm, ⟨27, _⟩ => ⟨S1x50, .f32⟩
  | .hbm, ⟨28, _⟩ => ⟨S50, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x4, .f32⟩
  | .local _ .vmem, ⟨9, _⟩ => ⟨S256x4, .f32⟩
  | .local _ .vmem, ⟨10, _⟩ => ⟨S256x4, .f32⟩
  | .local _ .vmem, ⟨11, _⟩ => ⟨S256x4, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | _, _ => ⟨S8192x512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev main_v9_4 : Ref sig .tc := ⟨.hbm, 16, rfl⟩
abbrev main_v9_5 : Ref sig .tc := ⟨.hbm, 17, rfl⟩
abbrev main_v9_6 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x512x4 : Shape := ⟨3, ![8192, 512, 4]⟩
abbrev S8192x4 : Shape := ⟨2, ![8192, 4]⟩
abbrev S8192x1x4 : Shape := ⟨3, ![8192, 1, 4]⟩
abbrev S8192x512x2 : Shape := ⟨3, ![8192, 512, 2]⟩
abbrev S_ : Shape := ⟨0, ![]⟩
abbrev S8192x512x1 : Shape := ⟨3, ![8192, 512, 1]⟩
abbrev S8192x512 : Shape := ⟨2, ![8192, 512]⟩
abbrev S8192x10 : Shape := ⟨2, ![8192, 10]⟩
abbrev S8192 : Shape := ⟨1, ![8192]⟩
abbrev S4194304 : Shape := ⟨1, ![4194304]⟩
abbrev S51 : Shape := ⟨1, ![51]⟩
abbrev S50 : Shape := ⟨1, ![50]⟩
abbrev S1x50 : Shape := ⟨2, ![1, 50]⟩
abbrev S4194304x1 : Shape := ⟨2, ![4194304, 1]⟩
abbrev S4194304x50 : Shape := ⟨2, ![4194304, 50]⟩
abbrev S8192x1 : Shape := ⟨2, ![8192, 1]⟩
abbrev S8192x50 : Shape := ⟨2, ![8192, 50]⟩

abbrev nBuf : Space → Nat
  | .hbm => 359
  | .vmem => 0
  | .smem => 0
  | _ => 0

abbrev hbmTy0_0 (i : Nat) : BufTy := match i % 128 with
  | 0 => ⟨S8192x512x4, .f32⟩
  | 1 => ⟨S8192x4, .f32⟩
  | 2 => ⟨S8192x4, .f32⟩
  | 3 => ⟨S8192x1x4, .f32⟩
  | 4 => ⟨S8192x512x4, .f32⟩
  | 5 => ⟨S8192x1x4, .f32⟩
  | 6 => ⟨S8192x512x4, .f32⟩
  | 7 => ⟨S8192x512x2, .f32⟩
  | 8 => ⟨S8192x512x2, .f32⟩
  | 9 => ⟨S8192x512x2, .f32⟩
  | 10 => ⟨S8192x512x2, .f32⟩
  | 11 => ⟨S8192x512x2, .f32⟩
  | 12 => ⟨S8192x512x2, .f32⟩
  | 13 => ⟨S8192x512x2, .f32⟩
  | 14 => ⟨S_, .f32⟩
  | 15 => ⟨S_, .f32⟩
  | 16 => ⟨S8192x512x2, .f32⟩
  | 17 => ⟨S8192x512x2, .f32⟩
  | 18 => ⟨S8192x512x1, .f32⟩
  | 19 => ⟨S8192x512, .f32⟩
  | 20 => ⟨S8192x512x1, .f32⟩
  | 21 => ⟨S8192x512, .f32⟩
  | 22 => ⟨S8192x512, .f32⟩
  | 23 => ⟨S8192x512x1, .f32⟩
  | 24 => ⟨S8192x512, .f32⟩
  | 25 => ⟨S8192x512x1, .f32⟩
  | 26 => ⟨S8192x512, .f32⟩
  | 27 => ⟨S8192x512, .f32⟩
  | 28 => ⟨S8192x512x1, .f32⟩
  | 29 => ⟨S8192x512, .f32⟩
  | 30 => ⟨S8192x512x1, .f32⟩
  | 31 => ⟨S8192x512, .f32⟩
  | 32 => ⟨S8192x512, .f32⟩
  | 33 => ⟨S8192x512, .f32⟩
  | 34 => ⟨S8192x512x1, .f32⟩
  | 35 => ⟨S8192x512, .f32⟩
  | 36 => ⟨S8192x512x1, .f32⟩
  | 37 => ⟨S8192x512, .f32⟩
  | 38 => ⟨S8192x512, .f32⟩
  | 39 => ⟨S8192x512x1, .f32⟩
  | 40 => ⟨S8192x512, .f32⟩
  | 41 => ⟨S8192x512x1, .f32⟩
  | 42 => ⟨S8192x512, .f32⟩
  | 43 => ⟨S8192x512, .f32⟩
  | 44 => ⟨S8192x512, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S8192x512, .f32⟩
  | 51 => ⟨S8192x512x2, .f32⟩
  | 52 => ⟨S8192x512x2, .f32⟩
  | 53 => ⟨S8192x512x2, .f32⟩
  | 54 => ⟨S8192x512x2, .f32⟩
  | 55 => ⟨S8192x512x2, .f32⟩
  | 56 => ⟨S8192x512x2, .f32⟩
  | 57 => ⟨S8192x512x2, .f32⟩
  | 58 => ⟨S_, .f32⟩
  | 59 => ⟨S_, .f32⟩
  | 60 => ⟨S8192x512x2, .f32⟩
  | 61 => ⟨S8192x512x2, .f32⟩
  | 62 => ⟨S8192x512x1, .f32⟩
  | 63 => ⟨S8192x512, .f32⟩
  | 64 => ⟨S8192x512x1, .f32⟩
  | 65 => ⟨S8192x512, .f32⟩
  | 66 => ⟨S8192x512, .f32⟩
  | 67 => ⟨S8192x512x1, .f32⟩
  | 68 => ⟨S8192x512, .f32⟩
  | 69 => ⟨S8192x512x1, .f32⟩
  | 70 => ⟨S8192x512, .f32⟩
  | 71 => ⟨S8192x512, .f32⟩
  | 72 => ⟨S8192x512x1, .f32⟩
  | 73 => ⟨S8192x512, .f32⟩
  | 74 => ⟨S8192x512x1, .f32⟩
  | 75 => ⟨S8192x512, .f32⟩
  | 76 => ⟨S8192x512, .f32⟩
  | 77 => ⟨S8192x512, .f32⟩
  | 78 => ⟨S8192x512x1, .f32⟩
  | 79 => ⟨S8192x512, .f32⟩
  | 80 => ⟨S8192x512x1, .f32⟩
  | 81 => ⟨S8192x512, .f32⟩
  | 82 => ⟨S8192x512, .f32⟩
  | 83 => ⟨S8192x512x1, .f32⟩
  | 84 => ⟨S8192x512, .f32⟩
  | 85 => ⟨S8192x512x1, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S_, .f32⟩
  | 92 => ⟨S8192x512, .f32⟩
  | 93 => ⟨S8192x512, .f32⟩
  | 94 => ⟨S8192x512, .f32⟩
  | 95 => ⟨S8192x10, .f32⟩
  | 96 => ⟨S8192x10, .i32⟩
  | 97 => ⟨S_, .f32⟩
  | 98 => ⟨S8192, .f32⟩
  | 99 => ⟨S_, .f32⟩
  | 100 => ⟨S8192, .f32⟩
  | 101 => ⟨S8192, .f32⟩
  | 102 => ⟨S_, .f32⟩
  | 103 => ⟨S8192, .f32⟩
  | 104 => ⟨S_, .f32⟩
  | 105 => ⟨S8192, .f32⟩
  | 106 => ⟨S_, .f32⟩
  | 107 => ⟨S8192, .f32⟩
  | 108 => ⟨S8192, .f32⟩
  | 109 => ⟨S8192x512, .f32⟩
  | 110 => ⟨S8192x512, .f32⟩
  | 111 => ⟨S4194304, .f32⟩
  | 112 => ⟨S51, .i32⟩
  | 113 => ⟨S51, .f32⟩
  | 114 => ⟨S_, .f32⟩
  | 115 => ⟨S51, .f32⟩
  | 116 => ⟨S51, .f32⟩
  | 117 => ⟨S_, .f32⟩
  | 118 => ⟨S51, .f32⟩
  | 119 => ⟨S51, .f32⟩
  | 120 => ⟨S_, .f32⟩
  | 121 => ⟨S51, .f32⟩
  | 122 => ⟨S51, .f32⟩
  | 123 => ⟨S_, .f32⟩
  | 124 => ⟨S51, .f32⟩
  | 125 => ⟨S51, .f32⟩
  | 126 => ⟨S51, .f32⟩
  | 127 => ⟨S50, .f32⟩
  | _ => ⟨S8192x512x4, .f32⟩

abbrev hbmTy0_1 (i : Nat) : BufTy := match i % 128 with
  | 0 => ⟨S1x50, .f32⟩
  | 1 => ⟨S50, .f32⟩
  | 2 => ⟨S1x50, .f32⟩
  | 3 => ⟨S50, .i32⟩
  | 4 => ⟨S_, .i32⟩
  | 5 => ⟨S50, .i32⟩
  | 6 => ⟨S50, .i1⟩
  | 7 => ⟨S1x50, .i1⟩
  | 8 => ⟨S4194304x1, .f32⟩
  | 9 => ⟨S4194304x50, .f32⟩
  | 10 => ⟨S4194304x50, .f32⟩
  | 11 => ⟨S4194304x50, .i1⟩
  | 12 => ⟨S4194304x50, .f32⟩
  | 13 => ⟨S4194304x50, .f32⟩
  | 14 => ⟨S4194304x50, .i1⟩
  | 15 => ⟨S4194304x50, .f32⟩
  | 16 => ⟨S4194304x50, .f32⟩
  | 17 => ⟨S4194304x50, .i1⟩
  | 18 => ⟨S4194304x50, .i1⟩
  | 19 => ⟨S4194304x50, .i1⟩
  | 20 => ⟨S4194304x50, .i1⟩
  | 21 => ⟨S4194304x50, .i1⟩
  | 22 => ⟨S_, .f32⟩
  | 23 => ⟨S_, .f32⟩
  | 24 => ⟨S4194304x50, .f32⟩
  | 25 => ⟨S4194304x50, .f32⟩
  | 26 => ⟨S4194304x50, .f32⟩
  | 27 => ⟨S4194304x50, .f32⟩
  | 28 => ⟨S_, .f32⟩
  | 29 => ⟨S50, .f32⟩
  | 30 => ⟨S51, .i32⟩
  | 31 => ⟨S51, .f32⟩
  | 32 => ⟨S_, .f32⟩
  | 33 => ⟨S51, .f32⟩
  | 34 => ⟨S51, .f32⟩
  | 35 => ⟨S_, .f32⟩
  | 36 => ⟨S51, .f32⟩
  | 37 => ⟨S51, .f32⟩
  | 38 => ⟨S_, .f32⟩
  | 39 => ⟨S51, .f32⟩
  | 40 => ⟨S51, .f32⟩
  | 41 => ⟨S_, .f32⟩
  | 42 => ⟨S51, .f32⟩
  | 43 => ⟨S51, .f32⟩
  | 44 => ⟨S51, .f32⟩
  | 45 => ⟨S50, .f32⟩
  | 46 => ⟨S1x50, .f32⟩
  | 47 => ⟨S50, .f32⟩
  | 48 => ⟨S1x50, .f32⟩
  | 49 => ⟨S50, .i32⟩
  | 50 => ⟨S_, .i32⟩
  | 51 => ⟨S50, .i32⟩
  | 52 => ⟨S50, .i1⟩
  | 53 => ⟨S1x50, .i1⟩
  | 54 => ⟨S8192x1, .f32⟩
  | 55 => ⟨S8192x50, .f32⟩
  | 56 => ⟨S8192x50, .f32⟩
  | 57 => ⟨S8192x50, .i1⟩
  | 58 => ⟨S8192x50, .f32⟩
  | 59 => ⟨S8192x50, .f32⟩
  | 60 => ⟨S8192x50, .i1⟩
  | 61 => ⟨S8192x50, .f32⟩
  | 62 => ⟨S8192x50, .f32⟩
  | 63 => ⟨S8192x50, .i1⟩
  | 64 => ⟨S8192x50, .i1⟩
  | 65 => ⟨S8192x50, .i1⟩
  | 66 => ⟨S8192x50, .i1⟩
  | 67 => ⟨S8192x50, .i1⟩
  | 68 => ⟨S_, .f32⟩
  | 69 => ⟨S_, .f32⟩
  | 70 => ⟨S8192x50, .f32⟩
  | 71 => ⟨S8192x50, .f32⟩
  | 72 => ⟨S8192x50, .f32⟩
  | 73 => ⟨S8192x50, .f32⟩
  | 74 => ⟨S_, .f32⟩
  | 75 => ⟨S50, .f32⟩
  | 76 => ⟨S51, .i32⟩
  | 77 => ⟨S51, .f32⟩
  | 78 => ⟨S_, .f32⟩
  | 79 => ⟨S51, .f32⟩
  | 80 => ⟨S51, .f32⟩
  | 81 => ⟨S_, .f32⟩
  | 82 => ⟨S51, .f32⟩
  | 83 => ⟨S51, .f32⟩
  | 84 => ⟨S_, .f32⟩
  | 85 => ⟨S51, .f32⟩
  | 86 => ⟨S51, .f32⟩
  | 87 => ⟨S_, .f32⟩
  | 88 => ⟨S51, .f32⟩
  | 89 => ⟨S51, .f32⟩
  | 90 => ⟨S51, .f32⟩
  | 91 => ⟨S50, .f32⟩
  | 92 => ⟨S1x50, .f32⟩
  | 93 => ⟨S50, .f32⟩
  | 94 => ⟨S1x50, .f32⟩
  | 95 => ⟨S50, .i32⟩
  | 96 => ⟨S_, .i32⟩
  | 97 => ⟨S50, .i32⟩
  | 98 => ⟨S50, .i1⟩
  | 99 => ⟨S1x50, .i1⟩
  | 100 => ⟨S8192x1, .f32⟩
  | 101 => ⟨S8192x50, .f32⟩
  | 102 => ⟨S8192x50, .f32⟩
  | 103 => ⟨S8192x50, .i1⟩
  | 104 => ⟨S8192x50, .f32⟩
  | 105 => ⟨S8192x50, .f32⟩
  | 106 => ⟨S8192x50, .i1⟩
  | 107 => ⟨S8192x50, .f32⟩
  | 108 => ⟨S8192x50, .f32⟩
  | 109 => ⟨S8192x50, .i1⟩
  | 110 => ⟨S8192x50, .i1⟩
  | 111 => ⟨S8192x50, .i1⟩
  | 112 => ⟨S8192x50, .i1⟩
  | 113 => ⟨S8192x50, .i1⟩
  | 114 => ⟨S_, .f32⟩
  | 115 => ⟨S_, .f32⟩
  | 116 => ⟨S8192x50, .f32⟩
  | 117 => ⟨S8192x50, .f32⟩
  | 118 => ⟨S8192x50, .f32⟩
  | 119 => ⟨S8192x50, .f32⟩
  | 120 => ⟨S_, .f32⟩
  | 121 => ⟨S50, .f32⟩
  | 122 => ⟨S8192x1, .f32⟩
  | 123 => ⟨S8192, .f32⟩
  | 124 => ⟨S51, .i32⟩
  | 125 => ⟨S51, .f32⟩
  | 126 => ⟨S_, .f32⟩
  | 127 => ⟨S51, .f32⟩
  | _ => ⟨S8192x512x4, .f32⟩

abbrev hbmTy0_2 (i : Nat) : BufTy := match i % 128 with
  | 0 => ⟨S51, .f32⟩
  | 1 => ⟨S_, .f32⟩
  | 2 => ⟨S51, .f32⟩
  | 3 => ⟨S51, .f32⟩
  | 4 => ⟨S_, .f32⟩
  | 5 => ⟨S51, .f32⟩
  | 6 => ⟨S51, .f32⟩
  | 7 => ⟨S_, .f32⟩
  | 8 => ⟨S51, .f32⟩
  | 9 => ⟨S51, .f32⟩
  | 10 => ⟨S51, .f32⟩
  | 11 => ⟨S50, .f32⟩
  | 12 => ⟨S1x50, .f32⟩
  | 13 => ⟨S50, .f32⟩
  | 14 => ⟨S1x50, .f32⟩
  | 15 => ⟨S50, .i32⟩
  | 16 => ⟨S_, .i32⟩
  | 17 => ⟨S50, .i32⟩
  | 18 => ⟨S50, .i1⟩
  | 19 => ⟨S1x50, .i1⟩
  | 20 => ⟨S8192x1, .f32⟩
  | 21 => ⟨S8192x50, .f32⟩
  | 22 => ⟨S8192x50, .f32⟩
  | 23 => ⟨S8192x50, .i1⟩
  | 24 => ⟨S8192x50, .f32⟩
  | 25 => ⟨S8192x50, .f32⟩
  | 26 => ⟨S8192x50, .i1⟩
  | 27 => ⟨S8192x50, .f32⟩
  | 28 => ⟨S8192x50, .f32⟩
  | 29 => ⟨S8192x50, .i1⟩
  | 30 => ⟨S8192x50, .i1⟩
  | 31 => ⟨S8192x50, .i1⟩
  | 32 => ⟨S8192x50, .i1⟩
  | 33 => ⟨S8192x50, .i1⟩
  | 34 => ⟨S_, .f32⟩
  | 35 => ⟨S_, .f32⟩
  | 36 => ⟨S8192x50, .f32⟩
  | 37 => ⟨S8192x50, .f32⟩
  | 38 => ⟨S8192x50, .f32⟩
  | 39 => ⟨S8192x50, .f32⟩
  | 40 => ⟨S_, .f32⟩
  | 41 => ⟨S50, .f32⟩
  | 42 => ⟨S51, .i32⟩
  | 43 => ⟨S51, .f32⟩
  | 44 => ⟨S_, .f32⟩
  | 45 => ⟨S51, .f32⟩
  | 46 => ⟨S51, .f32⟩
  | 47 => ⟨S_, .f32⟩
  | 48 => ⟨S51, .f32⟩
  | 49 => ⟨S51, .f32⟩
  | 50 => ⟨S_, .f32⟩
  | 51 => ⟨S51, .f32⟩
  | 52 => ⟨S51, .f32⟩
  | 53 => ⟨S_, .f32⟩
  | 54 => ⟨S51, .f32⟩
  | 55 => ⟨S51, .f32⟩
  | 56 => ⟨S51, .f32⟩
  | 57 => ⟨S50, .f32⟩
  | 58 => ⟨S1x50, .f32⟩
  | 59 => ⟨S50, .f32⟩
  | 60 => ⟨S1x50, .f32⟩
  | 61 => ⟨S50, .i32⟩
  | 62 => ⟨S_, .i32⟩
  | 63 => ⟨S50, .i32⟩
  | 64 => ⟨S50, .i1⟩
  | 65 => ⟨S1x50, .i1⟩
  | 66 => ⟨S8192x1, .f32⟩
  | 67 => ⟨S8192x50, .f32⟩
  | 68 => ⟨S8192x50, .f32⟩
  | 69 => ⟨S8192x50, .i1⟩
  | 70 => ⟨S8192x50, .f32⟩
  | 71 => ⟨S8192x50, .f32⟩
  | 72 => ⟨S8192x50, .i1⟩
  | 73 => ⟨S8192x50, .f32⟩
  | 74 => ⟨S8192x50, .f32⟩
  | 75 => ⟨S8192x50, .i1⟩
  | 76 => ⟨S8192x50, .i1⟩
  | 77 => ⟨S8192x50, .i1⟩
  | 78 => ⟨S8192x50, .i1⟩
  | 79 => ⟨S8192x50, .i1⟩
  | 80 => ⟨S_, .f32⟩
  | 81 => ⟨S_, .f32⟩
  | 82 => ⟨S8192x50, .f32⟩
  | 83 => ⟨S8192x50, .f32⟩
  | 84 => ⟨S8192x50, .f32⟩
  | 85 => ⟨S8192x50, .f32⟩
  | 86 => ⟨S_, .f32⟩
  | 87 => ⟨S50, .f32⟩
  | 88 => ⟨S_, .f32⟩
  | 89 => ⟨S8192x512, .f32⟩
  | 90 => ⟨S8192x512, .i1⟩
  | 91 => ⟨S_, .f32⟩
  | 92 => ⟨S8192x512, .f32⟩
  | 93 => ⟨S8192x512, .i1⟩
  | 94 => ⟨S8192x512, .i1⟩
  | 95 => ⟨S_, .f32⟩
  | 96 => ⟨S_, .f32⟩
  | 97 => ⟨S8192x512, .f32⟩
  | 98 => ⟨S8192x512, .f32⟩
  | 99 => ⟨S_, .f32⟩
  | 100 => ⟨S_, .f32⟩
  | 101 => ⟨S8192x512, .f32⟩
  | 102 => ⟨S8192x512, .f32⟩
  | _ => ⟨S8192x512x4, .f32⟩

abbrev hbmTy (i : Nat) : BufTy := match i / 128 with
  | 0 => hbmTy0_0 i
  | 1 => hbmTy0_1 i
  | 2 => hbmTy0_2 i
  | _ => ⟨S8192x512x4, .f32⟩

abbrev bufTy : (tb : Table) → Fin (tcTables nBuf tb) → BufTy
  | .hbm, ⟨i, _⟩ => hbmTy i
  | _, _ => ⟨S8192x512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_0 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_1 : Ref sig .tc := ⟨.hbm, 58, rfl⟩
abbrev main_call1_v0 : Ref sig .tc := ⟨.hbm, 59, rfl⟩
abbrev main_call1_v1 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_2 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_values : Ref sig .tc := ⟨.hbm, 95, rfl⟩
abbrev main_indices : Ref sig .tc := ⟨.hbm, 96, rfl⟩
abbrev main_cst_3 : Ref sig .tc := ⟨.hbm, 97, rfl⟩
abbrev main_v84 : Ref sig .tc := ⟨.hbm, 98, rfl⟩
abbrev main_cst_4 : Ref sig .tc := ⟨.hbm, 99, rfl⟩
abbrev main_v85 : Ref sig .tc := ⟨.hbm, 100, rfl⟩
abbrev main_v86 : Ref sig .tc := ⟨.hbm, 101, rfl⟩
abbrev main_cst_5 : Ref sig .tc := ⟨.hbm, 102, rfl⟩
abbrev main_v87 : Ref sig .tc := ⟨.hbm, 103, rfl⟩
abbrev main_cst_6 : Ref sig .tc := ⟨.hbm, 104, rfl⟩
abbrev main_v88 : Ref sig .tc := ⟨.hbm, 105, rfl⟩
abbrev main_cst_7 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_8 : Ref sig .tc := ⟨.hbm, 114, rfl⟩
abbrev main_v96 : Ref sig .tc := ⟨.hbm, 115, rfl⟩
abbrev main_v97 : Ref sig .tc := ⟨.hbm, 116, rfl⟩
abbrev main_cst_9 : Ref sig .tc := ⟨.hbm, 117, rfl⟩
abbrev main_v98 : Ref sig .tc := ⟨.hbm, 118, rfl⟩
abbrev main_v99 : Ref sig .tc := ⟨.hbm, 119, rfl⟩
abbrev main_cst_10 : Ref sig .tc := ⟨.hbm, 120, rfl⟩
abbrev main_v100 : Ref sig .tc := ⟨.hbm, 121, rfl⟩
abbrev main_v101 : Ref sig .tc := ⟨.hbm, 122, rfl⟩
abbrev main_cst_11 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_c : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_cst_12 : Ref sig .tc := ⟨.hbm, 150, rfl⟩
abbrev main_cst_13 : Ref sig .tc := ⟨.hbm, 151, rfl⟩
abbrev main_call2_v0 : Ref sig .tc := ⟨.hbm, 152, rfl⟩
abbrev main_call2_v1 : Ref sig .tc := ⟨.hbm, 153, rfl⟩
abbrev main_v127 : Ref sig .tc := ⟨.hbm, 154, rfl⟩
abbrev main_v128 : Ref sig .tc := ⟨.hbm, 155, rfl⟩
abbrev main_cst_14 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_cst_15 : Ref sig .tc := ⟨.hbm, 160, rfl⟩
abbrev main_v132 : Ref sig .tc := ⟨.hbm, 161, rfl⟩
abbrev main_v133 : Ref sig .tc := ⟨.hbm, 162, rfl⟩
abbrev main_cst_16 : Ref sig .tc := ⟨.hbm, 163, rfl⟩
abbrev main_v134 : Ref sig .tc := ⟨.hbm, 164, rfl⟩
abbrev main_v135 : Ref sig .tc := ⟨.hbm, 165, rfl⟩
abbrev main_cst_17 : Ref sig .tc := ⟨.hbm, 166, rfl⟩
abbrev main_v136 : Ref sig .tc := ⟨.hbm, 167, rfl⟩
abbrev main_v137 : Ref sig .tc := ⟨.hbm, 168, rfl⟩
abbrev main_cst_18 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_c_19 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_cst_20 : Ref sig .tc := ⟨.hbm, 196, rfl⟩
abbrev main_cst_21 : Ref sig .tc := ⟨.hbm, 197, rfl⟩
abbrev main_call3_v0 : Ref sig .tc := ⟨.hbm, 198, rfl⟩
abbrev main_call3_v1 : Ref sig .tc := ⟨.hbm, 199, rfl⟩
abbrev main_v163 : Ref sig .tc := ⟨.hbm, 200, rfl⟩
abbrev main_v164 : Ref sig .tc := ⟨.hbm, 201, rfl⟩
abbrev main_cst_22 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_cst_23 : Ref sig .tc := ⟨.hbm, 206, rfl⟩
abbrev main_v168 : Ref sig .tc := ⟨.hbm, 207, rfl⟩
abbrev main_v169 : Ref sig .tc := ⟨.hbm, 208, rfl⟩
abbrev main_cst_24 : Ref sig .tc := ⟨.hbm, 209, rfl⟩
abbrev main_v170 : Ref sig .tc := ⟨.hbm, 210, rfl⟩
abbrev main_v171 : Ref sig .tc := ⟨.hbm, 211, rfl⟩
abbrev main_cst_25 : Ref sig .tc := ⟨.hbm, 212, rfl⟩
abbrev main_v172 : Ref sig .tc := ⟨.hbm, 213, rfl⟩
abbrev main_v173 : Ref sig .tc := ⟨.hbm, 214, rfl⟩
abbrev main_cst_26 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_c_27 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_cst_28 : Ref sig .tc := ⟨.hbm, 242, rfl⟩
abbrev main_cst_29 : Ref sig .tc := ⟨.hbm, 243, rfl⟩
abbrev main_call4_v0 : Ref sig .tc := ⟨.hbm, 244, rfl⟩
abbrev main_call4_v1 : Ref sig .tc := ⟨.hbm, 245, rfl⟩
abbrev main_v199 : Ref sig .tc := ⟨.hbm, 246, rfl⟩
abbrev main_v200 : Ref sig .tc := ⟨.hbm, 247, rfl⟩
abbrev main_cst_30 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_cst_31 : Ref sig .tc := ⟨.hbm, 254, rfl⟩
abbrev main_v206 : Ref sig .tc := ⟨.hbm, 255, rfl⟩
abbrev main_v207 : Ref sig .tc := ⟨.hbm, 256, rfl⟩
abbrev main_cst_32 : Ref sig .tc := ⟨.hbm, 257, rfl⟩
abbrev main_v208 : Ref sig .tc := ⟨.hbm, 258, rfl⟩
abbrev main_v209 : Ref sig .tc := ⟨.hbm, 259, rfl⟩
abbrev main_cst_33 : Ref sig .tc := ⟨.hbm, 260, rfl⟩
abbrev main_v210 : Ref sig .tc := ⟨.hbm, 261, rfl⟩
abbrev main_v211 : Ref sig .tc := ⟨.hbm, 262, rfl⟩
abbrev main_cst_34 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_c_35 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_cst_36 : Ref sig .tc := ⟨.hbm, 290, rfl⟩
abbrev main_cst_37 : Ref sig .tc := ⟨.hbm, 291, rfl⟩
abbrev main_call5_v0 : Ref sig .tc := ⟨.hbm, 292, rfl⟩
abbrev main_call5_v1 : Ref sig .tc := ⟨.hbm, 293, rfl⟩
abbrev main_v237 : Ref sig .tc := ⟨.hbm, 294, rfl⟩
abbrev main_v238 : Ref sig .tc := ⟨.hbm, 295, rfl⟩
abbrev main_cst_38 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_cst_39 : Ref sig .tc := ⟨.hbm, 300, rfl⟩
abbrev main_v242 : Ref sig .tc := ⟨.hbm, 301, rfl⟩
abbrev main_v243 : Ref sig .tc := ⟨.hbm, 302, rfl⟩
abbrev main_cst_40 : Ref sig .tc := ⟨.hbm, 303, rfl⟩
abbrev main_v244 : Ref sig .tc := ⟨.hbm, 304, rfl⟩
abbrev main_v245 : Ref sig .tc := ⟨.hbm, 305, rfl⟩
abbrev main_cst_41 : Ref sig .tc := ⟨.hbm, 306, rfl⟩
abbrev main_v246 : Ref sig .tc := ⟨.hbm, 307, rfl⟩
abbrev main_v247 : Ref sig .tc := ⟨.hbm, 308, rfl⟩
abbrev main_cst_42 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_c_43 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_cst_44 : Ref sig .tc := ⟨.hbm, 336, rfl⟩
abbrev main_cst_45 : Ref sig .tc := ⟨.hbm, 337, rfl⟩
abbrev main_call6_v0 : Ref sig .tc := ⟨.hbm, 338, rfl⟩
abbrev main_call6_v1 : Ref sig .tc := ⟨.hbm, 339, rfl⟩
abbrev main_v273 : Ref sig .tc := ⟨.hbm, 340, rfl⟩
abbrev main_v274 : Ref sig .tc := ⟨.hbm, 341, rfl⟩
abbrev main_cst_46 : Ref sig .tc := ⟨.hbm, 342, rfl⟩
abbrev main_v275 : Ref sig .tc := ⟨.hbm, 343, rfl⟩
abbrev main_cst_47 : Ref sig .tc := ⟨.hbm, 344, rfl⟩
abbrev main_v276 : Ref sig .tc := ⟨.hbm, 345, rfl⟩
abbrev main_v277 : Ref sig .tc := ⟨.hbm, 346, rfl⟩
abbrev main_cst_48 : Ref sig .tc := ⟨.hbm, 347, rfl⟩
abbrev main_v278 : Ref sig .tc := ⟨.hbm, 348, rfl⟩
abbrev main_v279 : Ref sig .tc := ⟨.hbm, 349, rfl⟩
abbrev main_v280 : Ref sig .tc := ⟨.hbm, 350, rfl⟩
abbrev main_cst_49 : Ref sig .tc := ⟨.hbm, 351, rfl⟩
abbrev main_call7_v0 : Ref sig .tc := ⟨.hbm, 352, rfl⟩
abbrev main_call7_v1 : Ref sig .tc := ⟨.hbm, 353, rfl⟩
abbrev main_v281 : Ref sig .tc := ⟨.hbm, 354, rfl⟩
abbrev main_cst_50 : Ref sig .tc := ⟨.hbm, 355, rfl⟩
abbrev main_call8_v0 : Ref sig .tc := ⟨.hbm, 356, rfl⟩
abbrev main_call8_v1 : Ref sig .tc := ⟨.hbm, 357, rfl⟩
abbrev main_v282 : Ref sig .tc := ⟨.hbm, 358, rfl⟩

abbrev nD : Nat := 1
abbrev τ : Topo := Topo.v7x

variable {F : FTy → Type} [FloatOps F]
-- ==== Proof.RefRun.lean ====
/- The reference's run, with its seven results as the stages that the other modules read. -/
module

public import proofs.«01_k».proof.Proof.Gen.ReferenceIdeal.Run
public import proofs.«01_k».proof.Proof.Gen.ReferenceIdeal.Read

@[expose] public section

set_option maxRecDepth 65536

noncomputable section

namespace Cert.RefRun

open Idealize.ShloMosaic Idealize.ShloMosaic.TcCoe Idealize.SL.Sem Idealize.ShloMosaic.StableHlo Cert.ReferenceIdeal Cert.ReferenceIdeal.Gen

/-- Every execution of the reference ends with the seven results at their stages' values and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v129) = Read.val_main_v129 (F := Ideal) (m ((c.tc : Thread nD τ).loc main_arg0)) (m ((c.tc : Thread nD τ).loc main_arg1))
      ∧ r.2.mem ((c.tc : Thread nD τ).loc main_v165) = Read.val_main_v165 (F := Ideal) (m ((c.tc : Thread nD τ).loc main_arg0)) (m ((c.tc : Thread nD τ).loc main_arg1))
      ∧ r.2.mem ((c.tc : Thread nD τ).loc main_v201) = Read.val_main_v201 (F := Ideal) (m ((c.tc : Thread nD τ).loc main_arg0)) (m ((c.tc : Thread nD τ).loc main_arg1))
      ∧ r.2.mem ((c.tc : Thread nD τ).loc main_v239) = Read.val_main_v239 (F := Ideal) (m ((c.tc : Thread nD τ).loc main_arg1)) (m ((c.tc : Thread nD τ).loc main_arg2))
      ∧ r.2.mem ((c.tc : Thread nD τ).loc main_v275) = Read.val_main_v275 (F := Ideal) (m ((c.tc : Thread nD τ).loc main_arg0)) (m ((c.tc : Thread nD τ).loc main_arg1))
      ∧ r.2.mem ((c.tc : Thread nD τ).loc main_v281) = Read.val_main_v281 (F := Ideal) (m ((c.tc : Thread nD τ).loc main_arg0)) (m ((c.tc : Thread nD τ).loc main_arg1)) (m ((c.tc : Thread nD τ).loc main_arg2))
      ∧ r.2.mem ((c.tc : Thread nD τ).loc main_v282) = Read.val_main_v282 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Read.val_main_v129_eq (launchContents m c)),
      (h c).2.1.trans (Read.val_main_v165_eq (launchContents m c)),
      (h c).2.2.1.trans (Read.val_main_v201_eq (launchContents m c)),
      (h c).2.2.2.1.trans (Read.val_main_v239_eq (launchContents m c)),
      (h c).2.2.2.2.1.trans (Read.val_main_v275_eq (launchContents m c)),
      (h c).2.2.2.2.2.1.trans (Read.val_main_v281_eq (launchContents m c)),
      (h c).2.2.2.2.2.2.1.trans (Read.val_main_v282_eq (launchContents m c)), (h c).2.2.2.2.2.2.2⟩) (Value.run m ρ)

end Cert.RefRun

end

end
-- ==== Proof.Words.lean ====
/- The float words that the two programs print, as the extended reals that they denote: the reading of a literal is a
   sign, a power of two and a fraction, so each of these is one rational or an infinity. -/
module

public import Idealize.ShloMosaic.Lib.Pointwise

@[expose] public section

noncomputable section

namespace Cert.Words

open Idealize.ShloMosaic

/-- `0.0`. -/
theorem zero : Ideal.ofBits .f32 0x00000000#32 = ((0 : ℝ) : EReal) := by simp [Ideal.ofBits, Ideal.ieee]
/-- `1.0`. -/
theorem one : Ideal.ofBits .f32 0x3F800000#32 = ((1 : ℝ) : EReal) := by simp [Ideal.ofBits, Ideal.ieee]; rw [← EReal.coe_mul]; norm_num
/-- `-1.0`. -/
theorem negOne : Ideal.ofBits .f32 0xBF800000#32 = ((-1 : ℝ) : EReal) := by simp [Ideal.ofBits, Ideal.ieee]; rw [← EReal.coe_mul]; norm_num
/-- `10.0`. -/
theorem ten : Ideal.ofBits .f32 0x41200000#32 = ((10 : ℝ) : EReal) := by simp [Ideal.ofBits, Ideal.ieee]; rw [← EReal.coe_mul]; norm_num
/-- `25.0`. -/
theorem twentyFive : Ideal.ofBits .f32 0x41C80000#32 = ((25 : ℝ) : EReal) := by simp [Ideal.ofBits, Ideal.ieee]; rw [← EReal.coe_mul]; norm_num
/-- `49.0`. -/
theorem fortyNine : Ideal.ofBits .f32 0x42440000#32 = ((49 : ℝ) : EReal) := by simp [Ideal.ofBits, Ideal.ieee]; rw [← EReal.coe_mul]; norm_num
/-- `50.0`. -/
theorem fifty : Ideal.ofBits .f32 0x42480000#32 = ((50 : ℝ) : EReal) := by simp [Ideal.ofBits, Ideal.ieee]; rw [← EReal.coe_mul]; norm_num
/-- `512.0`. -/
theorem fiveTwelve : Ideal.ofBits .f32 0x44000000#32 = ((512 : ℝ) : EReal) := by simp [Ideal.ofBits, Ideal.ieee]; rw [← EReal.coe_mul]; norm_num
/-- `1 / 512`. -/
theorem inv512 : Ideal.ofBits .f32 0x3B000000#32 = ((1 / 512 : ℝ) : EReal) := by simp [Ideal.ofBits, Ideal.ieee]; rw [← EReal.coe_mul]; norm_num
/-- `-∞`. -/
theorem negInf : Ideal.ofBits .f32 0xFF800000#32 = ⊥ := by simp [Ideal.ofBits, Ideal.ieee]
/-- `+∞`. -/
theorem posInf : Ideal.ofBits .f32 0x7F800000#32 = ⊤ := by simp [Ideal.ofBits, Ideal.ieee]

/-- The union's lower bound, the word nearest to `1e-6`: some positive real. -/
theorem eps : ∃ e : ℝ, 0 < e ∧ Ideal.ofBits .f32 0x358637BD#32 = (e : EReal) := by
  refine ⟨_, ?_, by simp [Ideal.ofBits, Ideal.ieee]; rfl⟩
  norm_num

end Cert.Words

end
-- ==== Proof.Overlap.lean ====
/- The aligned overlap of two boxes over the extended reals, and its range: any box overlaps a box of real corners in a real number
   between 0 and 1. -/
module

public import proofs.«01_k».proof.Proof.Words

@[expose] public section

noncomputable section

namespace Cert.Overlap

open Idealize.ShloMosaic

/-- The common area over the area of the union, which is kept from zero by a small constant. The corners are
    `x1, y1, x2, y2` of the first box and then of the second. -/
def iou (a0 a1 a2 a3 b0 b1 b2 b3 : EReal) : EReal :=
  Ideal.div (max (min a2 b2 - max a0 b0) 0 * max (min a3 b3 - max a1 b1) 0)
    (max ((a2 - a0) * (a3 - a1) + (b2 - b0) * (b3 - b1)
        - max (min a2 b2 - max a0 b0) 0 * max (min a3 b3 - max a1 b1) 0)
      (Ideal.ofBits .f32 0x358637BD#32))

theorem coe_max' (x y : ℝ) : max (x : EReal) (y : EReal) = ((max x y : ℝ) : EReal) :=
  (EReal.coe_strictMono.monotone.map_max).symm

theorem coe_min' (x y : ℝ) : min (x : EReal) (y : EReal) = ((min x y : ℝ) : EReal) :=
  (EReal.coe_strictMono.monotone.map_min).symm

/-- A common side of any two corners with two real ones is a real number that is not negative, and unless it is zero it is at most
    either box's side. -/
theorem common (a c : EReal) (b d : ℝ) : ∃ w : ℝ, 0 ≤ w ∧ max (min c (d : EReal) - max a (b : EReal)) 0 = (w : EReal)
    ∧ (w = 0 ∨ 0 < w ∧ (w : EReal) ≤ c - a ∧ w ≤ d - b) := by
  rcases le_or_gt (min c (d : EReal) - max a (b : EReal)) 0 with neg | pos
  · exact ⟨0, le_rfl, max_eq_right neg, .inl rfl⟩
  · have first := EReal.sub_le_sub (min_le_left c (d : EReal)) (le_max_left a (b : EReal))
    have second := EReal.sub_le_sub (min_le_right c (d : EReal)) (le_max_right a (b : EReal))
    rw [max_eq_left pos.le]
    generalize min c (d : EReal) - max a (b : EReal) = x at *
    rw [← EReal.coe_sub] at second
    lift x to ℝ using ⟨(second.trans_lt (EReal.coe_lt_top _)).ne, (EReal.bot_lt_zero.trans pos).ne'⟩
    have pos' : 0 < x := EReal.coe_lt_coe_iff.1 pos
    exact ⟨x, pos'.le, rfl, .inr ⟨pos', first, EReal.coe_le_coe_iff.1 second⟩⟩

/-- A product of two factors that are at least two positive reals is infinite, or a real number at least their product. -/
theorem area {p q : EReal} {w h : ℝ} (w0 : 0 < w) (h0 : 0 < h) (hp : (w : EReal) ≤ p) (hq : (h : EReal) ≤ q) :
    p * q = ⊤ ∨ ∃ v : ℝ, p * q = (v : EReal) ∧ w * h ≤ v := by
  have p0 : 0 < p := (EReal.coe_lt_coe_iff.2 w0).trans_le hp
  have q0 : 0 < q := (EReal.coe_lt_coe_iff.2 h0).trans_le hq
  by_cases tp : p = ⊤
  · exact .inl (tp ▸ EReal.top_mul_of_pos q0)
  by_cases tq : q = ⊤
  · exact .inl (tq ▸ EReal.mul_top_of_pos p0)
  lift p to ℝ using ⟨tp, (EReal.bot_lt_zero.trans p0).ne'⟩
  lift q to ℝ using ⟨tq, (EReal.bot_lt_zero.trans q0).ne'⟩
  have hp' : w ≤ p := EReal.coe_le_coe_iff.1 hp
  exact .inr ⟨p * q, (EReal.coe_mul p q).symm, mul_le_mul hp' (EReal.coe_le_coe_iff.1 hq) h0.le (w0.le.trans hp')⟩

/-- No area over a union that is kept from zero is zero. -/
theorem div_none {u : EReal} (hu : 0 < u) : Ideal.div 0 u = ((0 : ℝ) : EReal) := by
  simp [Ideal.div, hu.ne']

/-- Any box overlaps a box of real corners in a real number of `[0, 1]`, however the corners are ordered. -/
theorem iou_range (a0 a1 a2 a3 : EReal) (b0 b1 b2 b3 : ℝ) :
    ∃ v : ℝ, 0 ≤ v ∧ v ≤ 1 ∧ iou a0 a1 a2 a3 b0 b1 b2 b3 = (v : EReal) := by
  obtain ⟨e, he, hw⟩ := Words.eps
  obtain ⟨w, w0, ew, cw⟩ := common a0 a2 b0 b2
  obtain ⟨h, h0, eh, ch⟩ := common a1 a3 b1 b3
  have he' : (0 : EReal) < (e : EReal) := EReal.coe_lt_coe_iff.2 he
  unfold iou
  rw [hw, ew, eh, ← EReal.coe_mul]
  rcases cw with rfl | ⟨wp, wa, wb⟩
  · rw [zero_mul]
    exact ⟨0, le_rfl, zero_le_one, div_none (lt_max_of_lt_right he')⟩
  rcases ch with rfl | ⟨hp, ha, hb⟩
  · rw [mul_zero]
    exact ⟨0, le_rfl, zero_le_one, div_none (lt_max_of_lt_right he')⟩
  simp only [← EReal.coe_sub, ← EReal.coe_mul]
  rcases area wp hp wa ha with top | ⟨v, ev, hv⟩
  · refine ⟨0, le_rfl, zero_le_one, ?_⟩
    rw [top, EReal.top_add_coe, EReal.top_sub_coe, max_eq_left le_top]
    simp [Ideal.div]
  · rw [ev, ← EReal.coe_add, ← EReal.coe_sub, coe_max']
    have pos : 0 < max (v + (b2 - b0) * (b3 - b1) - w * h) e := lt_max_of_lt_right he
    have one : w * h ≤ max (v + (b2 - b0) * (b3 - b1) - w * h) e := by
      refine le_max_of_le_left ?_
      have q := mul_le_mul wb hb h0 (w0.trans wb)
      linarith
    refine ⟨w * h * (1 / max (v + (b2 - b0) * (b3 - b1) - w * h) e), ?_, ?_, ?_⟩
    · positivity
    · rw [mul_one_div]; exact (div_le_one pos).2 one
    · rw [Ideal.div_coe pos.ne', ← EReal.coe_mul]

/-- The overlap does not depend on the order of the two boxes. -/
theorem iou_comm (a0 a1 a2 a3 b0 b1 b2 b3 : EReal) : iou a0 a1 a2 a3 b0 b1 b2 b3 = iou b0 b1 b2 b3 a0 a1 a2 a3 := by
  unfold iou
  rw [min_comm a2, max_comm a0, min_comm a3, max_comm a1, add_comm ((a2 - a0) * (a3 - a1))]

/-- `x`, or 100 where both overlaps `v` and `s` are below one half. -/
def masked (v s x : EReal) : EReal :=
  if v < Ideal.ofBits .f32 0x3F000000#32 ∧ s < Ideal.ofBits .f32 0x3F000000#32 then Ideal.ofBits .f32 0x42C80000#32 else x

theorem select_masked (v s x : EReal) :
    Scalar.select (IntOp.andi (BitVec.ofBool (decide (v < Ideal.ofBits .f32 0x3F000000#32)))
        (BitVec.ofBool (decide (s < Ideal.ofBits .f32 0x3F000000#32)))) (Ideal.ofBits .f32 0x42C80000#32) x
      = masked v s x := by
  unfold masked
  by_cases h : v < Ideal.ofBits .f32 0x3F000000#32 <;> by_cases h' : s < Ideal.ofBits .f32 0x3F000000#32 <;>
    simp [h, h', IntOp.andi, Scalar.select]

end Cert.Overlap

end
-- ==== Proof.Bins.lean ====
/- Which bin a value falls into, told in two ways: the kernel scales, floors and clips it to a bin number, the
   reference compares it with the bin's two edges. On the histogram's range the two agree. -/
module

public import proofs.«01_k».proof.Proof.Overlap

@[expose] public section

noncomputable section

namespace Cert.Bins

open Idealize.ShloMosaic

/-- The bin number of an already scaled value: floored, clipped to `[0, 49]` and converted to an integer. -/
def bin (y : EReal) : BitVec 32 :=
  (FloatOps.fptosi (F := Ideal) (φ := .f32) 32
    (min (Ideal.ofBits .f32 0x42440000#32) (max 0 (FloatOps.floor (F := Ideal) (φ := .f32) y)) : EReal))

/-- A scaled real falls into bin `k` exactly when its floor, clipped, is `k`. -/
theorem bin_coe (y : ℝ) : bin (y : EReal) = BitVec.ofInt 32 (min 49 (max 0 ⌊y⌋)) := by
  have hf : FloatOps.floor (F := Ideal) (φ := .f32) (y : EReal) = (((⌊y⌋ : ℤ) : ℝ) : EReal) := rfl
  have h : min (((49 : ℝ) : EReal)) (max (0 : EReal) (((⌊y⌋ : ℤ) : ℝ) : EReal))
      = ((((min 49 (max 0 ⌊y⌋) : ℤ)) : ℝ) : EReal) := by
    rw [← EReal.coe_zero, Overlap.coe_max', Overlap.coe_min']
    push_cast
    rfl
  unfold bin
  rw [hf, Words.fortyNine, h]
  have n0 : 0 ≤ min 49 (max 0 ⌊y⌋) := le_min (by norm_num) (le_max_left _ _)
  have n1 : min 49 (max 0 ⌊y⌋) ≤ 49 := min_le_left _ _
  generalize min 49 (max 0 ⌊y⌋) = n at *
  show Ideal.fptosi 32 ((n : ℝ) : EReal) = _
  rw [Ideal.fptosi, Ideal.toIntClamped_coe, if_pos (by exact_mod_cast n0), Int.floor_intCast]
  congr 1
  simp only [Nat.add_one_sub_one, Nat.reduceSub, Nat.reducePow]
  omega

/-- The reference's test for bin `k` of fifty over `[0, 1]`, scaled: from `k` on and below `k + 1`, the last bin closed. -/
theorem bin_iff {y : ℝ} (h0 : 0 ≤ y) (h1 : y ≤ 50) {k : ℕ} (hk : k < 50) :
    bin (y : EReal) = BitVec.ofNat 32 k ↔ (k : ℝ) ≤ y ∧ (y < k + 1 ∨ k = 49 ∧ y = k + 1) := by
  rw [bin_coe]
  have f0 : 0 ≤ ⌊y⌋ := Int.floor_nonneg.2 h0
  have f1 : ⌊y⌋ ≤ 50 := by exact_mod_cast (Int.floor_le y).trans h1
  have e : BitVec.ofInt 32 (min 49 (max 0 ⌊y⌋)) = BitVec.ofNat 32 k ↔ min 49 ⌊y⌋ = (k : ℤ) := by
    rw [max_eq_right f0]
    obtain ⟨n, hn⟩ := Int.eq_ofNat_of_zero_le f0
    rw [hn] at f1 ⊢
    have : min (49 : ℤ) (n : ℤ) = ((min 49 n : ℕ) : ℤ) := by push_cast; rfl
    rw [this, BitVec.ofInt_natCast]
    constructor
    · intro h
      have := congrArg BitVec.toNat h
      simp only [BitVec.toNat_ofNat] at this
      omega
    · intro h
      rw [Int.ofNat.inj h]
  rw [e]
  constructor
  · intro h
    have hle : (k : ℤ) ≤ ⌊y⌋ := h ▸ min_le_right _ _
    refine ⟨by exact_mod_cast Int.le_floor.1 hle, ?_⟩
    by_cases hk' : ⌊y⌋ = k
    · left
      have := Int.lt_floor_add_one y
      rw [hk'] at this
      exact_mod_cast this
    · have h49 : k = 49 := by omega
      have h50 : ⌊y⌋ = 50 := by omega
      right
      refine ⟨h49, le_antisymm ?_ ?_⟩
      · rw [h49]; push_cast; linarith
      · have := Int.floor_le y
        rw [h50] at this
        rw [h49]; push_cast at this ⊢; linarith
  · rintro ⟨hk0, h | ⟨rfl, h⟩⟩
    · have : ⌊y⌋ = k := Int.floor_eq_iff.2 ⟨by exact_mod_cast hk0, by exact_mod_cast h⟩
      rw [this]; omega
    · have : ⌊y⌋ = 50 := Int.floor_eq_iff.2 ⟨by rw [h]; norm_num, by rw [h]; norm_num⟩
      rw [this]; rfl

/-- A choice by the equality of two bin numbers. -/
theorem select_same {α : Type} (a b : BitVec 32) (x y : α) :
    Scalar.select (IntOp.cmpi .eq a b) x y = if a = b then x else y := by
  have e : (a == b) = decide (a = b) := rfl
  by_cases h : a = b <;> simp [IntOp.cmpi, Scalar.select, e, h]

end Cert.Bins

end
-- ==== Proof.Block.lean ====
/- What one block of the kernel computes, read entry by entry: the overlap of each box with its row's ground truth, the overlap of
   the row's ground truth with its merged box, the two outputs made of them, and one block's share of the four histograms of rows. -/
module

public import proofs.«01_k».proof.Proof.Gen.KernelIdeal.Frame
public import proofs.«01_k».proof.Proof.Overlap
public import proofs.«01_k».proof.Proof.Bins
public import Idealize.ShloMosaic.Lib.Pointwise

@[expose] public section

set_option maxRecDepth 16384

noncomputable section

namespace Cert.Block

open Cert.KernelIdeal Cert.KernelIdeal.Gen Idealize.ShloMosaic Idealize.ShloMosaic.TcCoe
open Cert.Overlap (iou)

variable (X0 X1 X2 X3 : FVec Ideal S256x512 .f32) (G M : FVec Ideal S256x4 .f32)

/-- the overlaps of a block's boxes with their rows' ground truths -/
def iouB : FVec Ideal S256x512 .f32 :=
  k0_pay13 (k0_pay2 X0) (k0_pay3 X1) (k0_pay4 X2) (k0_pay5 X3) (k0_pay6 G) (k0_pay7 G) (k0_pay8 G) (k0_pay9 G)
    (k0_pay11 X0 G) (k0_pay12 X1 G)

theorem iouB_apply (r : Fin 256) (p : Fin 512) :
    iouB X0 X1 X2 X3 G (ix2 r p)
      = iou (X0 (ix2 r p)) (X1 (ix2 r p)) (X2 (ix2 r p)) (X3 (ix2 r p))
          (G (ix2 r (0 : Fin 4))) (G (ix2 r (1 : Fin 4))) (G (ix2 r (2 : Fin 4))) (G (ix2 r (3 : Fin 4))) := by
  pointwise [iouB, k0_pay13, k0_pay2, k0_pay3, k0_pay4, k0_pay5, k0_pay6, k0_pay7, k0_pay8, k0_pay9, k0_pay11, k0_pay12]
  rfl

/-- the overlap of a row's ground truth with its merged box, as a column -/
def sB : FVec Ideal S256x1 .f32 := k0_pay10 G M

theorem sB_apply (r : Fin 256) :
    sB G M (ix2 r (0 : Fin 1))
      = iou (G (ix2 r (0 : Fin 4))) (G (ix2 r (1 : Fin 4))) (G (ix2 r (2 : Fin 4))) (G (ix2 r (3 : Fin 4)))
          (M (ix2 r (0 : Fin 4))) (M (ix2 r (1 : Fin 4))) (M (ix2 r (2 : Fin 4))) (M (ix2 r (3 : Fin 4))) := by
  pointwise [sB, k0_pay10, k0_pay6, k0_pay7, k0_pay8, k0_pay9]
  rfl

/-- the first output block: the difference of the overlaps, masked -/
def minusB : FVec Ideal S256x512 .f32 :=
  k0_pay16 (k0_pay2 X0) (k0_pay3 X1) (k0_pay4 X2) (k0_pay5 X3) (k0_pay6 G) (k0_pay7 G) (k0_pay8 G) (k0_pay9 G)
    (k0_pay10 G M) (k0_pay11 X0 G) (k0_pay12 X1 G)

/-- the second output block: the relative difference of the overlaps, masked -/
def normB : FVec Ideal S256x512 .f32 :=
  k0_pay17 (k0_pay2 X0) (k0_pay3 X1) (k0_pay4 X2) (k0_pay5 X3) (k0_pay6 G) (k0_pay7 G) (k0_pay8 G) (k0_pay9 G)
    (k0_pay10 G M) (k0_pay11 X0 G) (k0_pay12 X1 G)

theorem minusB_apply (r : Fin 256) (p : Fin 512) :
    minusB X0 X1 X2 X3 G M (ix2 r p)
      = Overlap.masked (iouB X0 X1 X2 X3 G (ix2 r p)) (sB G M (ix2 r (0 : Fin 1)))
          (iouB X0 X1 X2 X3 G (ix2 r p) - sB G M (ix2 r (0 : Fin 1))) := by
  have e : minusB X0 X1 X2 X3 G M = select
      (andi (cmpf .olt (iouB X0 X1 X2 X3 G) (broadcast S256x512 (Scalar.ofBits .f32 0x3F000000#32)))
        (broadcastTo S256x512 (cmpf .olt (sB G M) (broadcast S256x1 (Scalar.ofBits .f32 0x3F000000#32)))
          broadcasts_S256x1_S256x512))
      (broadcast S256x512 (Scalar.ofBits .f32 0x42C80000#32))
      (subf (iouB X0 X1 X2 X3 G) (broadcastTo S256x512 (sB G M) broadcasts_S256x1_S256x512)) := rfl
  rw [e]
  pointwise
  exact Overlap.select_masked _ _ _

theorem normB_apply (r : Fin 256) (p : Fin 512) :
    normB X0 X1 X2 X3 G M (ix2 r p)
      = Overlap.masked (iouB X0 X1 X2 X3 G (ix2 r p)) (sB G M (ix2 r (0 : Fin 1)))
          (Ideal.div (iouB X0 X1 X2 X3 G (ix2 r p) - sB G M (ix2 r (0 : Fin 1))) (sB G M (ix2 r (0 : Fin 1)))) := by
  have e : normB X0 X1 X2 X3 G M = select
      (andi (cmpf .olt (iouB X0 X1 X2 X3 G) (broadcast S256x512 (Scalar.ofBits .f32 0x3F000000#32)))
        (broadcastTo S256x512 (cmpf .olt (sB G M) (broadcast S256x1 (Scalar.ofBits .f32 0x3F000000#32)))
          broadcasts_S256x1_S256x512))
      (broadcast S256x512 (Scalar.ofBits .f32 0x42C80000#32))
      (divf (subf (iouB X0 X1 X2 X3 G) (broadcastTo S256x512 (sB G M) broadcasts_S256x1_S256x512))
        (broadcastTo S256x512 (sB G M) broadcasts_S256x1_S256x512)) := rfl
  rw [e]
  pointwise
  exact Overlap.select_masked _ _ _

/-- a row's mean overlap -/
def meanB : FVec Ideal S256x1 .f32 :=
  k0_pay18 (k0_pay2 X0) (k0_pay3 X1) (k0_pay4 X2) (k0_pay5 X3) (k0_pay6 G) (k0_pay7 G) (k0_pay8 G) (k0_pay9 G)
    (k0_pay11 X0 G) (k0_pay12 X1 G)

theorem meanB_apply (r : Fin 256) :
    meanB X0 X1 X2 X3 G (ix2 r (0 : Fin 1))
      = (∑ p : Fin 512, iouB X0 X1 X2 X3 G (ix2 r p)) * Ideal.ofBits .f32 0x3B000000#32 := by
  have e : meanB X0 X1 X2 X3 G = mulf (shapeCast S256x1
      (multiReduction .add [1] S256 (iouB X0 X1 X2 X3 G) 0x00000000#32 reduces_S256x512_S256 (.inl rfl) rfl)
      shapeCasts_S256_S256x1) (broadcast S256x1 (Scalar.ofBits .f32 0x3B000000#32)) := rfl
  rw [e]
  pointwise

/-- how many numbers of a column fall into each of 64 bins; the numbers are shifted by `d` and scaled by `c` first -/
def colCount (d c : BitVec 32) (y : FVec Ideal S256x1 .f32) : FVec Ideal S1x64 .f32 :=
  shapeCast S1x64
    (multiReduction .add [0] S64
      (select (cmpi .eq
          (broadcastTo S256x64
            (fptosi 32 (minimumf (broadcast S256x1 (Scalar.ofBits .f32 0x42440000#32))
              (maximumf (broadcast S256x1 (Scalar.ofBits .f32 0x00000000#32))
                (floor (mulf (subf y (broadcast S256x1 (Scalar.ofBits .f32 d))) (broadcast S256x1 (Scalar.ofBits .f32 c)))))))
            broadcasts_S256x1_S256x64)
          (broadcastTo S256x64 (iota .tc S1x64 32 [1] iota_S1x64_d1_w32) broadcasts_S1x64_S256x64))
        (broadcast S256x64 (Scalar.ofBits .f32 0x3F800000#32)) (broadcast S256x64 (Scalar.ofBits .f32 0x00000000#32)) :
          FVec Ideal S256x64 .f32)
      0x00000000#32 reduces_S256x64_S64 (.inl rfl) rfl)
    shapeCasts_S64_S1x64

theorem colCount_apply (d c : BitVec 32) (y : FVec Ideal S256x1 .f32) (l : Fin 64) :
    colCount d c y (ix2 (0 : Fin 1) l)
      = ∑ r : Fin 256, if Bins.bin ((y (ix2 r (0 : Fin 1)) - Ideal.ofBits .f32 d) * Ideal.ofBits .f32 c) = BitVec.ofNat 32 l
          then (1 : EReal) else 0 := by
  pointwise [colCount]
  simp only [Bins.select_same]
  rfl

/-- the block of bin numbers of a block of overlaps -/
theorem bins_apply (V : FVec Ideal S256x512 .f32) (r : Fin 256) (p : Fin 512) :
    k0_pay70 V (ix2 r p) = Bins.bin (V (ix2 r p) * Ideal.ofBits .f32 0x42480000#32) := by
  pointwise [k0_pay70]
  rfl

section Histograms

variable (h : FVec Ideal S1x64 .f32) (V : FVec Ideal S256x512 .f32) (y : FVec Ideal S256x1 .f32)

theorem max_hist : k0_pay63 (k0_pay61 h) (FloatOps.ofBits FTy.f32 1111752704#32) (k0_pay62 y)
    = addf h (colCount 0x00000000#32 0x42480000#32 y) := by
  have e : k0_pay61 h = h := shapeCast_self ..
  rw [e]
  rfl

theorem mean_hist : k0_pay64 y h = addf h (colCount 0x00000000#32 0x42480000#32 y) := by
  have e : shapeCast S1x64 h shapeCasts_S1x64_S1x64 = h := shapeCast_self ..
  unfold k0_pay64
  rw [e]
  rfl

theorem top_hist : k0_pay66 y (k0_pay65 h) (FloatOps.ofBits FTy.f32 0#32) = addf h (colCount 0x00000000#32 0x42480000#32 y) := by
  have e : k0_pay65 h = h := shapeCast_self ..
  rw [e]
  rfl

theorem gt_hist : k0_pay69 (k0_pay67 h) (k0_pay68 y) = addf h (colCount 0xBF800000#32 0x41C80000#32 y) := by
  have e : k0_pay67 h = h := shapeCast_self ..
  rw [e]
  rfl

end Histograms

end Cert.Block

end

end
-- ==== Proof.Lanes.lean ====
/- The kernel's histogram of a whole block of overlaps, which it builds lane by lane: fifty times it counts the entries of the block
   that lie in bin `k` and adds the count to lane `k` of a row of 64. This module names one such step, shows that what the kernel
   prints is fifty of them, and reads the finished row at a lane. -/
module

public import proofs.«01_k».proof.Proof.Gen.KernelIdeal.Frame
public import proofs.«01_k».proof.Proof.Bins
public import Idealize.ShloMosaic.Lib.Pointwise

@[expose] public section

set_option maxRecDepth 16384

noncomputable section

namespace Cert.Lanes

open Cert.KernelIdeal Cert.KernelIdeal.Gen Idealize.ShloMosaic Idealize.ShloMosaic.TcCoe

/-- the numbers of the 64 lanes -/
abbrev lanes : IVec S1x64 32 := iota .tc S1x64 32 [1] iota_S1x64_d1_w32

/-- how many entries of the block `N` of bin numbers equal `k`, as the kernel computes it -/
def total (N : IVec S256x512 32) (k : BitVec 32) : FVec Ideal S1 .f32 :=
  multiReduction .add [1, 2] S1
    (shapeCast S1x256x512
      (select (cmpi .eq N (broadcast S256x512 k)) (broadcast S256x512 (Scalar.ofBits .f32 0x3F800000#32))
        (broadcast S256x512 (Scalar.ofBits .f32 0x00000000#32)) : FVec Ideal S256x512 .f32)
      shapeCasts_S256x512_S1x256x512)
    0x00000000#32 reduces_S1x256x512_S1 (.inl rfl) rfl

/-- one step: the count of bin `k` added to lane `k` of the row `acc` -/
def put (N : IVec S256x512 32) (A : IVec S1x64 32) (k : BitVec 32) (acc : FVec Ideal S1x64 .f32) : FVec Ideal S1x64 .f32 :=
  select (cmpi .eq A (broadcast S1x64 k))
    (addf acc (broadcast S1x64
      (extractAt ![0, 0, 0] (shapeCast S1x1x1 (total N k) shapeCasts_S1_S1x1x1) inpos_S1x1x1_p0_0_0)))
    acc

/-- the row after `n` steps -/
def chain (N : IVec S256x512 32) : ℕ → FVec Ideal S1x64 .f32
  | 0 => broadcast S1x64 (Scalar.ofBits .f32 0x00000000#32)
  | n + 1 => put N lanes (BitVec.ofNat 32 n) (chain N n)

/-- the count is a sum over the block's rows and columns -/
theorem total_apply (N : IVec S256x512 32) (k : BitVec 32) :
    total N k (ix1 (0 : Fin 1)) = ∑ r : Fin 256, ∑ p : Fin 512, if N (ix2 r p) = k then (1 : EReal) else 0 := by
  pointwise [total]
  simp only [Bins.select_same]

/-- a step at a lane -/
theorem put_apply (N : IVec S256x512 32) (A : IVec S1x64 32) (k : BitVec 32) (acc : FVec Ideal S1x64 .f32) (l : Fin 64) :
    put N A k acc (ix2 (0 : Fin 1) l)
      = if A (ix2 (0 : Fin 1) l) = k then acc (ix2 (0 : Fin 1) l) + total N k (ix1 (0 : Fin 1)) else acc (ix2 (0 : Fin 1) l) := by
  pointwise [put]
  exact Bins.select_same _ _ _ _

/-- after `n` steps lane `l` holds its bin's count if `l` is one of the first `n`, else zero -/
theorem chain_apply (N : IVec S256x512 32) (l : Fin 64) : ∀ n : ℕ, n ≤ 50 → chain N n (ix2 (0 : Fin 1) l)
    = if (l : ℕ) < n then total N (BitVec.ofNat 32 l) (ix1 (0 : Fin 1)) else 0
  | 0, _ => by pointwise [chain]; exact (if_neg (Nat.not_lt_zero _)).symm
  | n + 1, hn => by
    have hA : lanes (ix2 (0 : Fin 1) l) = BitVec.ofNat 32 l := by pointwise
    have inj : BitVec.ofNat 32 (l : ℕ) = BitVec.ofNat 32 n ↔ (l : ℕ) = n := by
      have := l.isLt
      rw [← BitVec.toNat_inj, BitVec.toNat_ofNat, BitVec.toNat_ofNat]
      omega
    rw [chain, put_apply, chain_apply N l n (by omega), hA]
    by_cases h : (l : ℕ) = n
    · rw [if_pos (inj.2 h), if_neg (by omega), if_pos (by omega), zero_add, h]
    · rw [if_neg (fun e => h (inj.1 e))]
      by_cases h' : (l : ℕ) < n
      · rw [if_pos h', if_pos (by omega)]
      · rw [if_neg h', if_neg (by omega)]

section Parts

variable (V : FVec Ideal S256x512 .f32) (N : IVec S256x512 32) (A : IVec S1x64 32) (acc : FVec Ideal S1x64 .f32)

theorem part0 : k0_pay71 V = put (k0_pay70 V) lanes 1#32 (put (k0_pay70 V) lanes 0#32 (chain (k0_pay70 V) 0)) := rfl

theorem part2 : k0_pay73 (k0_pay70 V) A acc (k0_pay72 V)
    = put (k0_pay70 V) A 4#32 (put (k0_pay70 V) A 3#32 (put (k0_pay70 V) A 2#32 acc)) := rfl

theorem part5 : k0_pay76 N A acc (k0_pay74 N) (FloatOps.ofBits FTy.f32 0#32) k0_pay75
    = put N A 7#32 (put N A 6#32 (put N A 5#32 acc)) := rfl

theorem part8 : k0_pay78 N A acc (k0_pay77 N) = put N A 10#32 (put N A 9#32 (put N A 8#32 acc)) := rfl

theorem part11 : k0_pay80 N A acc (k0_pay79 N) = put N A 13#32 (put N A 12#32 (put N A 11#32 acc)) := rfl

theorem part14 : k0_pay83 N A acc (k0_pay81 N) k0_pay82 = put N A 16#32 (put N A 15#32 (put N A 14#32 acc)) := rfl

theorem part17 : k0_pay86 N A (k0_pay83 N A acc (k0_pay81 N) k0_pay82) (k0_pay84 A) (k0_pay85 N A acc (k0_pay81 N) k0_pay82)
    = put N A 20#32 (put N A 19#32 (put N A 18#32 (put N A 17#32 (k0_pay83 N A acc (k0_pay81 N) k0_pay82)))) := rfl

theorem part21 : k0_pay88 N A acc k0_pay87 = put N A 23#32 (put N A 22#32 (put N A 21#32 acc)) := rfl

theorem part24 : k0_pay90 N A acc (k0_pay89 N) (FloatOps.ofBits FTy.f32 1065353216#32) (FloatOps.ofBits FTy.f32 0#32)
    = put N A 26#32 (put N A 25#32 (put N A 24#32 acc)) := rfl

theorem part27 : k0_pay92 N A acc (k0_pay91 N) = put N A 29#32 (put N A 28#32 (put N A 27#32 acc)) := rfl

theorem part30 : k0_pay94 N A acc (k0_pay93 N) = put N A 32#32 (put N A 31#32 (put N A 30#32 acc)) := rfl

theorem part33 : k0_pay96 N A acc (k0_pay95 N) 33#32 = put N A 35#32 (put N A 34#32 (put N A 33#32 acc)) := rfl

theorem part36 : k0_pay99 N A acc (k0_pay97 A) (k0_pay98 N)
    = put N A 39#32 (put N A 38#32 (put N A 37#32 (put N A 36#32 acc))) := rfl

theorem part40 : k0_pay100 N A acc 40#32 = put N A 42#32 (put N A 41#32 (put N A 40#32 acc)) := rfl

theorem part43 : k0_pay102 N A acc (k0_pay101 N) (FloatOps.ofBits FTy.f32 1065353216#32)
    = put N A 45#32 (put N A 44#32 (put N A 43#32 acc)) := rfl

theorem part46 : k0_pay106 N A acc (k0_pay103 N) k0_pay104 k0_pay105
    = put N A 48#32 (put N A 47#32 (put N A 46#32 acc)) := rfl

theorem part49 (h : FVec Ideal S1x64 .f32) : k0_pay1 A acc (k0_pay107 N) h = addf h (put N A 49#32 acc) := by
  show addf (shapeCast S1x64 h shapeCasts_S1x64_S1x64) (put N A 49#32 acc) = _
  rw [shapeCast_self]

end Parts

end Cert.Lanes

end

end
-- ==== Proof.Peel.lean ====
/- The sum of a row's ten greatest entries by peeling: each round takes the row's maximum as often as it occurs, at most
   as often as entries are still needed, and strikes out its occurrences. Ten rounds always suffice. -/
module

public import Mathlib.Data.EReal.Operations
public import Mathlib.Algebra.BigOperators.Fin
public import Mathlib.Algebra.Order.BigOperators.Group.Finset
public import Mathlib.Algebra.BigOperators.Intervals

@[expose] public section

noncomputable section

namespace Cert.Peel

/-- The greatest entry of a row. -/
def top (x : Fin 512 → EReal) : EReal := Finset.univ.fold max ⊥ x

/-- How many of the still needed entries a round takes: the occurrences of the maximum, at most the need. -/
def take (x : Fin 512 → EReal) (need : EReal) : EReal := min (∑ k, if x k = top x then (1 : EReal) else 0) need

/-- The row with the occurrences of its maximum struck out, that is set to minus one. -/
def strike (x : Fin 512 → EReal) : Fin 512 → EReal := fun k => if x k = top x then -1 else x k

/-- The state after `n` rounds: the row, the need that is left, and the sum so far. -/
def rounds (f : Fin 512 → EReal) : ℕ → (Fin 512 → EReal) × EReal × EReal
  | 0 => (f, 10, 0)
  | n + 1 => (strike (rounds f n).1, (rounds f n).2.1 - take (rounds f n).1 (rounds f n).2.1,
      (rounds f n).2.2 + take (rounds f n).1 (rounds f n).2.1 * top (rounds f n).1)

/-- The maximum is an upper bound that is attained. -/
theorem top_eq {x : Fin 512 → EReal} {m : EReal} (h : ∀ k, x k ≤ m) (k : Fin 512) (hk : x k = m) : top x = m := by
  apply le_antisymm
  · exact Finset.fold_max_le m |>.2 ⟨bot_le, fun k _ => h k⟩
  · exact (Finset.le_fold_max m).2 (Or.inr ⟨k, Finset.mem_univ k, hk.ge⟩)

/-- Where the rounds stand once the `p` first of the sorted entries `s` are struck out: `σ` sorts the row. -/
def At (σ : Fin 512 → Fin 512) (s : ℕ → ℝ) (st : (Fin 512 → EReal) × EReal × EReal) (p : ℕ) : Prop :=
  st.2.1 = (((10 - p : ℕ) : ℝ) : EReal) ∧ st.2.2 = ((∑ j ∈ Finset.range (min p 10), s j : ℝ) : EReal)
    ∧ ∀ j : Fin 512, st.1 (σ j) = if (j : ℕ) < p then -1 else (s j : EReal)

/-- The number of places from `p` on and below `q`. -/
theorem count_between {p q : ℕ} (hpq : p ≤ q) (hq : q ≤ 512) :
    (∑ j : Fin 512, if p ≤ (j : ℕ) ∧ (j : ℕ) < q then (1 : EReal) else 0) = (((q - p : ℕ) : ℝ) : EReal) := by
  rw [Fin.sum_univ_eq_sum_range (fun j => if p ≤ j ∧ j < q then (1 : EReal) else 0) 512, ← Finset.sum_filter]
  have : (Finset.range 512).filter (fun j => p ≤ j ∧ j < q) = Finset.Ico p q := by
    ext j; simp only [Finset.mem_filter, Finset.mem_range, Finset.mem_Ico]; omega
  rw [this, Finset.sum_const, Nat.card_Ico]
  simp

/-- One round strikes out at least one more entry, or has none left. -/
theorem round_at {σ : Fin 512 → Fin 512} (hσ : Function.Bijective σ) {s : ℕ → ℝ} (anti : Antitone s) (pos : ∀ j, 0 ≤ s j)
    {x : Fin 512 → EReal} {need acc : EReal} {p : ℕ} (hp : p ≤ 512) (h : At σ s (x, need, acc) p) :
    ∃ q, (p < q ∨ q = 512) ∧ q ≤ 512 ∧ At σ s (strike x, need - take x need, acc + take x need * top x) q := by
  obtain ⟨hn, ha, hx⟩ := h
  simp only at hn ha hx
  have cnt : ∀ m : EReal, (∑ k, if x k = m then (1 : EReal) else 0) = ∑ j : Fin 512, if x (σ j) = m then (1 : EReal) else 0 :=
    fun m => ((Equiv.ofBijective σ hσ).sum_comp fun k => if x k = m then (1 : EReal) else 0).symm
  rcases Nat.lt_or_ge p 512 with hlt | hge
  · -- the entries equal to the greatest left reach from `p` up to some `q`
    have ex : ∃ q, p < q ∧ (q = 512 ∨ s q < s p) := ⟨512, hlt, Or.inl rfl⟩
    classical
    let q := Nat.find ex
    have hq : p < q ∧ (q = 512 ∨ s q < s p) := Nat.find_spec ex
    have hq512 : q ≤ 512 := Nat.find_min' ex ⟨hlt, Or.inl rfl⟩
    have same : ∀ j, p ≤ j → j < q → s j = s p := fun j h1 h2 => by
      rcases Nat.eq_or_lt_of_le h1 with rfl | h1
      · rfl
      · exact le_antisymm (anti h1.le) (not_lt.1 fun h3 => Nat.find_min ex h2 ⟨h1, Or.inr h3⟩)
    have less : ∀ j, q ≤ j → j < 512 → s j < s p := fun j h1 h2 => by
      rcases hq.2 with h3 | h3
      · omega
      · exact (anti h1).trans_lt h3
    have neg : ((-1 : EReal)) < (s p : EReal) := by
      have : ((-1 : ℝ) : EReal) < (s p : EReal) := EReal.coe_lt_coe_iff.2 (by linarith [pos p])
      rwa [EReal.coe_neg, EReal.coe_one] at this
    have htop : top x = (s p : EReal) := by
      refine top_eq (fun k => ?_) (σ ⟨p, hlt⟩) (by rw [hx]; simp)
      obtain ⟨j, rfl⟩ := hσ.2 k
      rw [hx]
      split
      · exact neg.le
      · exact EReal.coe_le_coe_iff.2 (anti (by omega))
    have mem : ∀ j : Fin 512, x (σ j) = (s p : EReal) ↔ p ≤ (j : ℕ) ∧ (j : ℕ) < q := fun j => by
      rw [hx]
      split
      · exact ⟨fun e => absurd e neg.ne, fun e => by omega⟩
      · rw [EReal.coe_eq_coe_iff]
        exact ⟨fun e => ⟨by omega, not_le.1 fun h => absurd e (less j h j.isLt).ne⟩, fun e => same j e.1 e.2⟩
    have htake : take x need = (((min (q - p) (10 - p) : ℕ) : ℝ) : EReal) := by
      unfold take
      rw [cnt, htop]
      simp only [mem]
      rw [count_between hq.1.le hq512, hn]
      rw [← EReal.coe_strictMono.monotone.map_min, Nat.cast_min]
    refine ⟨q, Or.inl hq.1, hq512, ?_, ?_, fun j => ?_⟩
    · show need - take x need = _
      rw [htake, hn, ← EReal.coe_sub, ← Nat.cast_sub (min_le_right _ _)]
      congr 2
      omega
    · show acc + take x need * top x = _
      rw [htake, htop, ha, ← EReal.coe_mul, ← EReal.coe_add]
      congr 1
      have hm : min p 10 ≤ min q 10 := by omega
      rw [Finset.range_eq_Ico, Finset.range_eq_Ico, ← Finset.sum_Ico_consecutive s (Nat.zero_le _) hm]
      congr 1
      rw [Finset.sum_congr rfl (g := fun _ => s p) fun j hj => same j (by have := Finset.mem_Ico.1 hj; omega)
        (by have := Finset.mem_Ico.1 hj; omega), Finset.sum_const, Nat.card_Ico, nsmul_eq_mul]
      congr 2
      omega
    · show (if x (σ j) = top x then (-1 : EReal) else x (σ j)) = _
      rw [htop]
      by_cases hj : p ≤ (j : ℕ) ∧ (j : ℕ) < q
      · rw [if_pos ((mem j).2 hj), if_pos hj.2]
      · rw [if_neg fun e => hj ((mem j).1 e), hx]
        by_cases hjp : (j : ℕ) < p
        · rw [if_pos hjp, if_pos (by omega)]
        · rw [if_neg hjp, if_neg (by omega)]
  · -- nothing is left, and nothing more is needed
    obtain rfl : p = 512 := le_antisymm hp hge
    have all : ∀ k, x k = -1 := fun k => by
      obtain ⟨j, rfl⟩ := hσ.2 k
      rw [hx, if_pos j.isLt]
    have htop : top x = -1 := top_eq (fun k => (all k).le) 0 (all 0)
    have hneed : need = 0 := by rw [hn]; simp
    have htake : take x need = 0 := by
      unfold take
      rw [hneed, min_eq_right (Finset.sum_nonneg fun k _ => by split <;> simp)]
    refine ⟨512, Or.inr rfl, le_rfl, ?_, ?_, fun j => ?_⟩
    · show need - take x need = _
      rw [htake, sub_zero, hn]
    · show acc + take x need * top x = _
      rw [htake, zero_mul, add_zero, ha]
    · show (if x (σ j) = top x then (-1 : EReal) else x (σ j)) = _
      rw [htop, all, if_pos rfl, if_pos j.isLt]

/-- After `n` rounds at least `n` entries are struck out, all of them at the latest after `512`. -/
theorem rounds_at {σ : Fin 512 → Fin 512} (hσ : Function.Bijective σ) {s : ℕ → ℝ} (anti : Antitone s) (pos : ∀ j, 0 ≤ s j)
    {f : Fin 512 → EReal} (hf : ∀ j, f (σ j) = (s j : EReal)) (n : ℕ) :
    ∃ q, (n ≤ q ∨ q = 512) ∧ q ≤ 512 ∧ At σ s (rounds f n) q := by
  induction n with
  | zero =>
    refine ⟨0, Or.inl le_rfl, by omega, ?_, ?_, fun j => ?_⟩
    · show (10 : EReal) = _
      norm_num
      rfl
    · show (0 : EReal) = _
      simp
    · show f (σ j) = _
      rw [hf, if_neg (by omega)]
  | succ n ih =>
    obtain ⟨p, h1, h2, h3⟩ := ih
    obtain ⟨q, h4, h5, h6⟩ := round_at hσ anti pos h2 h3
    exact ⟨q, by omega, h5, h6⟩

/-- **Ten rounds give the sum of the ten greatest entries.** -/
theorem rounds_ten {σ : Fin 512 → Fin 512} (hσ : Function.Bijective σ) {s : ℕ → ℝ} (anti : Antitone s) (pos : ∀ j, 0 ≤ s j)
    {f : Fin 512 → EReal} (hf : ∀ j, f (σ j) = (s j : EReal)) :
    (rounds f 10).2.2 = ((∑ j ∈ Finset.range 10, s j : ℝ) : EReal) := by
  obtain ⟨q, h1, _, _, h4, _⟩ := rounds_at hσ anti pos hf 10
  rw [h4, min_eq_right (by omega)]

end Cert.Peel

end
-- ==== Proof.Rounds.lean ====
/- The kernel's ten rounds of peeling on a block: what it prints is ten times the same step on a block of rows, and a row of the
   block follows the rounds of module Peel. -/
module

public import proofs.«01_k».proof.Proof.Gen.KernelIdeal.Frame
public import proofs.«01_k».proof.Proof.Words
public import proofs.«01_k».proof.Proof.Peel
public import Idealize.ShloMosaic.Lib.Pointwise

@[expose] public section

set_option maxRecDepth 16384

noncomputable section

namespace Cert.Rounds

open Cert.KernelIdeal Cert.KernelIdeal.Gen Idealize.ShloMosaic Idealize.ShloMosaic.TcCoe

/-- the greatest entry of each row -/
def peak (x : FVec Ideal S256x512 .f32) : FVec Ideal S256x1 .f32 :=
  shapeCast S256x1 (multiReduction .maximumf [1] S256 x 0xFF800000#32 reduces_S256x512_S256 (.inl rfl) rfl) shapeCasts_S256_S256x1

/-- where a row's greatest entry stands -/
def hits (x : FVec Ideal S256x512 .f32) : IVec S256x512 1 :=
  cmpf .oeq x (broadcastTo S256x512 (peak x) broadcasts_S256x1_S256x512)

/-- how many of the still needed entries a round takes -/
def taken (x : FVec Ideal S256x512 .f32) (need : FVec Ideal S256x1 .f32) : FVec Ideal S256x1 .f32 :=
  minimumf (shapeCast S256x1 (multiReduction .add [1] S256
    (select (hits x) (broadcast S256x512 (Scalar.ofBits .f32 0x3F800000#32)) (broadcast S256x512 (Scalar.ofBits .f32 0x00000000#32)))
    0x00000000#32 reduces_S256x512_S256 (.inl rfl) rfl) shapeCasts_S256_S256x1) need

/-- the block with its rows' greatest entries struck out -/
def struck (x : FVec Ideal S256x512 .f32) : FVec Ideal S256x512 .f32 :=
  select (hits x) (broadcast S256x512 (Scalar.ofBits .f32 0xBF800000#32)) x

/-- the block of rows, the needs that are left and the sums so far -/
abbrev State := FVec Ideal S256x512 .f32 × FVec Ideal S256x1 .f32 × FVec Ideal S256x1 .f32

/-- one round -/
def step (s : State) : State :=
  (struck s.1, subf s.2.1 (taken s.1 s.2.1), addf s.2.2 (mulf (taken s.1 s.2.1) (peak s.1)))

/-- the state after `n` rounds -/
def after (V : FVec Ideal S256x512 .f32) : ℕ → State
  | 0 => (V, broadcast S256x1 (Scalar.ofBits .f32 0x41200000#32), broadcast S256x1 (Scalar.ofBits .f32 0x00000000#32))
  | n + 1 => step (after V n)

/-- the mean of each row's ten greatest entries, as the kernel computes it -/
def topB (V : FVec Ideal S256x512 .f32) : FVec Ideal S256x1 .f32 :=
  divf (after V 10).2.2 (broadcast S256x1 (Scalar.ofBits .f32 0x41200000#32))

section Rows

theorem select_true (P : Prop) [Decidable P] (a b : EReal) : Scalar.select (BitVec.ofBool (decide P)) a b = if P then a else b := by
  by_cases h : P <;> simp [h, Scalar.select]

variable (x : FVec Ideal S256x512 .f32) (need : FVec Ideal S256x1 .f32) (r : Fin 256)

theorem peak_apply : peak x (ix2 r (0 : Fin 1)) = Peel.top fun p : Fin 512 => x (ix2 r p) := by
  pointwise [peak]
  simp only [Words.negInf]
  rfl

theorem hits_apply (p : Fin 512) : hits x (ix2 r p)
    = BitVec.ofBool (decide (x (ix2 r p) = Peel.top fun p : Fin 512 => x (ix2 r p))) := by
  rw [← peak_apply]
  pointwise [hits]

theorem struck_apply (p : Fin 512) : struck x (ix2 r p) = Peel.strike (fun p : Fin 512 => x (ix2 r p)) p := by
  have h := hits_apply x r p
  pointwise [struck]
  rw [h, select_true, Words.negOne]
  rfl

theorem taken_apply : taken x need (ix2 r (0 : Fin 1))
    = Peel.take (fun p : Fin 512 => x (ix2 r p)) (need (ix2 r (0 : Fin 1))) := by
  pointwise [taken]
  simp only [hits_apply, select_true]
  rfl

/-- a row of the block follows the rounds of one row -/
theorem after_row (V : FVec Ideal S256x512 .f32) : ∀ n : ℕ,
    (fun p : Fin 512 => (after V n).1 (ix2 r p)) = (Peel.rounds (fun p : Fin 512 => V (ix2 r p)) n).1
      ∧ (after V n).2.1 (ix2 r (0 : Fin 1)) = (Peel.rounds (fun p : Fin 512 => V (ix2 r p)) n).2.1
      ∧ (after V n).2.2 (ix2 r (0 : Fin 1)) = (Peel.rounds (fun p : Fin 512 => V (ix2 r p)) n).2.2
  | 0 => ⟨rfl, Words.ten, Words.zero⟩
  | n + 1 => by
    obtain ⟨h1, h2, h3⟩ := after_row V n
    refine ⟨funext fun p => ?_, ?_, ?_⟩
    · show struck (after V n).1 (ix2 r p) = Peel.strike _ p
      rw [struck_apply, h1]
    · show (after V n).2.1 (ix2 r (0 : Fin 1)) - taken (after V n).1 (after V n).2.1 (ix2 r (0 : Fin 1)) = _ - Peel.take _ _
      rw [taken_apply, h1, h2]
    · show (after V n).2.2 (ix2 r (0 : Fin 1))
        + taken (after V n).1 (after V n).2.1 (ix2 r (0 : Fin 1)) * peak (after V n).1 (ix2 r (0 : Fin 1)) = _ + Peel.take _ _ * Peel.top _
      rw [taken_apply, peak_apply, h1, h2, h3]

/-- a row's mean of its ten greatest entries is the sum that ten rounds collect, divided by ten -/
theorem topB_apply (V : FVec Ideal S256x512 .f32) : topB V (ix2 r (0 : Fin 1))
    = Ideal.div (Peel.rounds (fun p : Fin 512 => V (ix2 r p)) 10).2.2 (Ideal.ofBits .f32 0x41200000#32) := by
  rw [← (after_row r V 10).2.2]
  pointwise [topB]

end Rows

section Parts

variable (V : FVec Ideal S256x512 .f32) (s : State)

theorem two_x : k0_pay29 V = (after V 2).1 := rfl
theorem two_need : k0_pay28 V = (after V 2).2.1 := rfl
theorem two_sum : k0_pay27 V k0_pay19 = (after V 2).2.2 := rfl
theorem two_peak : k0_pay30 V = peak (after V 2).1 := rfl
theorem two_taken : k0_pay31 V = taken (after V 2).1 (after V 2).2.1 := rfl

theorem three_x : k0_pay42 s.1 (peak s.1) = (step (step (step s))).1 := rfl
theorem three_peak : k0_pay43 s.1 (peak s.1) = peak (step (step (step s))).1 := rfl
theorem three_hits : k0_pay44 s.1 (peak s.1) = hits (step (step (step s))).1 := rfl
theorem three_need : k0_pay41 s.2.1 s.1 (peak s.1) (taken s.1 s.2.1) = (step (step (step s))).2.1 := rfl
theorem three_sum : k0_pay40 s.2.2 s.2.1 s.1 (peak s.1) (taken s.1 s.2.1) = (step (step (step s))).2.2 := rfl

theorem third_x : k0_pay57 s.1 (peak s.1) = (step (step (step s))).1 := rfl
theorem third_need : k0_pay56 s.2.1 s.1 (peak s.1) (hits s.1) (FloatOps.ofBits FTy.f32 0#32) k0_pay45
    = (step (step (step s))).2.1 := rfl
theorem third_sum : k0_pay55 s.2.2 s.2.1 s.1 (peak s.1) (hits s.1) (FloatOps.ofBits FTy.f32 0#32) k0_pay45
    = (step (step (step s))).2.2 := rfl
theorem last (x : FVec Ideal S256x512 .f32) (mx : FVec Ideal S256x1 .f32) (hx : k0_pay57 x mx = s.1) :
    k0_pay59 s.2.2 s.2.1 s.1 (k0_pay58 x mx)
      = divf (step (step s)).2.2 (broadcast S256x1 (Scalar.ofBits .f32 0x41200000#32)) := by
  have e : k0_pay58 x mx = multiReduction .maximumf [1] S256 (k0_pay57 x mx) 0xFF800000#32 reduces_S256x512_S256 (.inl rfl) rfl := rfl
  rw [e, hx]
  rfl

/-- what the kernel prints for the ten rounds is ten steps and the division -/
theorem printed : k0_pay59
      (k0_pay55 (k0_pay40 (k0_pay27 V k0_pay19) (k0_pay28 V) (k0_pay29 V) (k0_pay30 V) (k0_pay31 V))
        (k0_pay41 (k0_pay28 V) (k0_pay29 V) (k0_pay30 V) (k0_pay31 V)) (k0_pay42 (k0_pay29 V) (k0_pay30 V))
        (k0_pay43 (k0_pay29 V) (k0_pay30 V)) (k0_pay44 (k0_pay29 V) (k0_pay30 V)) (FloatOps.ofBits FTy.f32 0#32)
        k0_pay45)
      (k0_pay56 (k0_pay41 (k0_pay28 V) (k0_pay29 V) (k0_pay30 V) (k0_pay31 V)) (k0_pay42 (k0_pay29 V) (k0_pay30 V))
        (k0_pay43 (k0_pay29 V) (k0_pay30 V)) (k0_pay44 (k0_pay29 V) (k0_pay30 V)) (FloatOps.ofBits FTy.f32 0#32)
        k0_pay45)
      (k0_pay57 (k0_pay42 (k0_pay29 V) (k0_pay30 V)) (k0_pay43 (k0_pay29 V) (k0_pay30 V)))
      (k0_pay58 (k0_pay42 (k0_pay29 V) (k0_pay30 V)) (k0_pay43 (k0_pay29 V) (k0_pay30 V)))
    = topB V := by
  rw [two_x, two_need, two_sum, two_peak, two_taken, three_x, three_peak, three_hits, three_need, three_sum, third_x, third_need,
    third_sum, last _ _ _ (third_x _)]
  rfl

end Parts

end Cert.Rounds

end

end
-- ==== Proof.Points.lean ====
/- What the kernel leaves in its seven output buffers at a grid point, over the point's input blocks: two blocks of the point's own,
   and five rows of 64 bins, each the row of the point before (or zeros, at the first point) and the point's own count added. -/
module

public import proofs.«01_k».proof.Proof.Block
public import proofs.«01_k».proof.Proof.Lanes
public import proofs.«01_k».proof.Proof.Rounds
public import Idealize.ShloMosaic.Lib.Pipeline.ValueKit

@[expose] public section

set_option maxRecDepth 16384

noncomputable section

namespace Cert.Points

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- the point's block of overlaps of boxes with ground truths -/
abbrev V : FVec Ideal S256x512 .f32 :=
  Block.iouB (iblk m c 0 t) (iblk m c 1 t) (iblk m c 2 t) (iblk m c 3 t) (iblk m c 4 t)

/-- the point's column of overlaps of ground truths with merged boxes -/
abbrev S : FVec Ideal S256x1 .f32 := Block.sB (iblk m c 4 t) (iblk m c 5 t)

/-- the point's counts of all overlaps -/
abbrev all : FVec Ideal S1x64 .f32 := Lanes.chain (k0_pay70 (V m c t)) 50

/-- the point's counts of the rows' greatest overlaps -/
abbrev maxs : FVec Ideal S1x64 .f32 := Block.colCount 0x00000000#32 0x42480000#32 (Rounds.peak (V m c t))

/-- the point's counts of the rows' mean overlaps -/
abbrev means : FVec Ideal S1x64 .f32 := Block.colCount 0x00000000#32 0x42480000#32
  (Block.meanB (iblk m c 0 t) (iblk m c 1 t) (iblk m c 2 t) (iblk m c 3 t) (iblk m c 4 t))

/-- the point's counts of the overlaps of ground truths with merged boxes -/
abbrev gts : FVec Ideal S1x64 .f32 := Block.colCount 0xBF800000#32 0x41C80000#32 (S m c t)

/-- the point's counts of the rows' means of their ten greatest overlaps -/
abbrev tops : FVec Ideal S1x64 .f32 := Block.colCount 0x00000000#32 0x42480000#32 (Rounds.topB (V m c t))

theorem minus_at : (dats m 0 c).after 6 t
    = Block.minusB (iblk m c 0 t) (iblk m c 1 t) (iblk m c 2 t) (iblk m c 3 t) (iblk m c 4 t) (iblk m c 5 t) := by
  rw [after0_6]
  by_cases h0 : t.val % 32 = 0
  · rw [outsAt0_A m c t h0]; frame_out; rfl
  · rw [outsAt0_B m c t h0]; frame_out; rfl

theorem norm_at : (dats m 0 c).after 7 t
    = Block.normB (iblk m c 0 t) (iblk m c 1 t) (iblk m c 2 t) (iblk m c 3 t) (iblk m c 4 t) (iblk m c 5 t) := by
  rw [after0_7]
  by_cases h0 : t.val % 32 = 0
  · rw [outsAt0_A m c t h0]; frame_out; rfl
  · rw [outsAt0_B m c t h0]; frame_out; rfl

/-- the row of zeros that the first point starts from -/
abbrev zeros : FVec Ideal S1x64 .f32 := k0_pay60

/-- the printed overlaps are the block of overlaps -/
theorem V_eq : k0_pay13 (k0_pay2 (iblk m c 0 t)) (k0_pay3 (iblk m c 1 t)) (k0_pay4 (iblk m c 2 t)) (k0_pay5 (iblk m c 3 t))
    (k0_pay6 (iblk m c 4 t)) (k0_pay7 (iblk m c 4 t)) (k0_pay8 (iblk m c 4 t)) (k0_pay9 (iblk m c 4 t))
    (k0_pay11 (iblk m c 0 t) (iblk m c 4 t)) (k0_pay12 (iblk m c 1 t) (iblk m c 4 t)) = V m c t := rfl

theorem all_first (h0 : t.val % 32 = 0) : (outsAt0 m c t.val t.isLt).2.2.1 = addf zeros (all m c t) := by
  rw [outsAt0_A m c t h0]
  frame_out
  rw [V_eq, Lanes.part0, Lanes.part2, Lanes.part5, Lanes.part8, Lanes.part11, Lanes.part17, Lanes.part14, Lanes.part21,
    Lanes.part24, Lanes.part27, Lanes.part30, Lanes.part33, Lanes.part36, Lanes.part40, Lanes.part43, Lanes.part46, Lanes.part49]
  rfl

theorem all_next (h0 : ¬ t.val % 32 = 0) : (outsAt0 m c t.val t.isLt).2.2.1
    = addf (outsAt0 m c (t.val - 1) (Nat.lt_of_le_of_lt (Nat.sub_le _ _) t.isLt)).2.2.1 (all m c t) := by
  rw [outsAt0_B m c t h0]
  frame_out
  rw [V_eq, Lanes.part0, Lanes.part2, Lanes.part5, Lanes.part8, Lanes.part11, Lanes.part17, Lanes.part14, Lanes.part21,
    Lanes.part24, Lanes.part27, Lanes.part30, Lanes.part33, Lanes.part36, Lanes.part40, Lanes.part43, Lanes.part46, Lanes.part49]
  rfl

theorem maxs_first (h0 : t.val % 32 = 0) : (outsAt0 m c t.val t.isLt).2.2.2.1 = addf zeros (maxs m c t) := by
  rw [outsAt0_A m c t h0]
  frame_out
  rw [V_eq, Block.max_hist]
  rfl

theorem maxs_next (h0 : ¬ t.val % 32 = 0) : (outsAt0 m c t.val t.isLt).2.2.2.1
    = addf (outsAt0 m c (t.val - 1) (Nat.lt_of_le_of_lt (Nat.sub_le _ _) t.isLt)).2.2.2.1 (maxs m c t) := by
  rw [outsAt0_B m c t h0]
  frame_out
  rw [V_eq, Block.max_hist]
  rfl

theorem means_first (h0 : t.val % 32 = 0) : (outsAt0 m c t.val t.isLt).2.2.2.2.1 = addf zeros (means m c t) := by
  rw [outsAt0_A m c t h0]
  frame_out
  rw [Block.mean_hist]
  rfl

theorem means_next (h0 : ¬ t.val % 32 = 0) : (outsAt0 m c t.val t.isLt).2.2.2.2.1
    = addf (outsAt0 m c (t.val - 1) (Nat.lt_of_le_of_lt (Nat.sub_le _ _) t.isLt)).2.2.2.2.1 (means m c t) := by
  rw [outsAt0_B m c t h0]
  frame_out
  rw [Block.mean_hist]
  rfl

theorem gts_first (h0 : t.val % 32 = 0) : (outsAt0 m c t.val t.isLt).2.2.2.2.2.1 = addf zeros (gts m c t) := by
  rw [outsAt0_A m c t h0]
  frame_out
  rw [Block.gt_hist]
  rfl

theorem gts_next (h0 : ¬ t.val % 32 = 0) : (outsAt0 m c t.val t.isLt).2.2.2.2.2.1
    = addf (outsAt0 m c (t.val - 1) (Nat.lt_of_le_of_lt (Nat.sub_le _ _) t.isLt)).2.2.2.2.2.1 (gts m c t) := by
  rw [outsAt0_B m c t h0]
  frame_out
  rw [Block.gt_hist]
  rfl

theorem tops_first (h0 : t.val % 32 = 0) : (outsAt0 m c t.val t.isLt).2.2.2.2.2.2 = addf zeros (tops m c t) := by
  rw [outsAt0_A m c t h0]
  frame_out
  rw [V_eq, Rounds.printed, Block.top_hist]

theorem tops_next (h0 : ¬ t.val % 32 = 0) : (outsAt0 m c t.val t.isLt).2.2.2.2.2.2
    = addf (outsAt0 m c (t.val - 1) (Nat.lt_of_le_of_lt (Nat.sub_le _ _) t.isLt)).2.2.2.2.2.2 (tops m c t) := by
  rw [outsAt0_B m c t h0]
  frame_out
  rw [V_eq, Rounds.printed, Block.top_hist]

end Cert.Points

end

end
-- ==== Proof.Formula.lean ====
/- The quantities both programs compute, as plain functions of the three argument arrays: the overlap of a box with its row's ground
   truth, the overlap of the row's ground truth with its merged box, the two masked comparisons of them, and the four numbers of a
   row that are counted into bins. -/
module

public import proofs.«01_k».proof.Proof.Overlap
public import proofs.«01_k».proof.Proof.Bins
public import proofs.«01_k».proof.Proof.Peel

@[expose] public section

noncomputable section

namespace Cert.Formula

open Idealize.ShloMosaic

/-- the boxes: 8192 rows of 512 boxes of four corners -/
abbrev Boxes := FVec Ideal ⟨3, ![8192, 512, 4]⟩ .f32

/-- one box a row -/
abbrev Rows := FVec Ideal ⟨2, ![8192, 4]⟩ .f32

/-- the overlap of box `p` of row `R` with the row's ground truth -/
def overlap (x0 : Boxes) (x1 : Rows) (R : Fin 8192) (p : Fin 512) : EReal :=
  Overlap.iou (x0 (ix3 R p (0 : Fin 4))) (x0 (ix3 R p (1 : Fin 4))) (x0 (ix3 R p (2 : Fin 4))) (x0 (ix3 R p (3 : Fin 4)))
    (x1 (ix2 R (0 : Fin 4))) (x1 (ix2 R (1 : Fin 4))) (x1 (ix2 R (2 : Fin 4))) (x1 (ix2 R (3 : Fin 4)))

/-- the overlap of row `R`'s ground truth with its merged box -/
def base (x1 x2 : Rows) (R : Fin 8192) : EReal :=
  Overlap.iou (x1 (ix2 R (0 : Fin 4))) (x1 (ix2 R (1 : Fin 4))) (x1 (ix2 R (2 : Fin 4))) (x1 (ix2 R (3 : Fin 4)))
    (x2 (ix2 R (0 : Fin 4))) (x2 (ix2 R (1 : Fin 4))) (x2 (ix2 R (2 : Fin 4))) (x2 (ix2 R (3 : Fin 4)))

/-- by how much box `p` beats the merged box, masked -/
def minus (x0 : Boxes) (x1 x2 : Rows) (R : Fin 8192) (p : Fin 512) : EReal :=
  Overlap.masked (overlap x0 x1 R p) (base x1 x2 R) (overlap x0 x1 R p - base x1 x2 R)

/-- by how much of the merged box's overlap box `p` beats it, masked -/
def norm (x0 : Boxes) (x1 x2 : Rows) (R : Fin 8192) (p : Fin 512) : EReal :=
  Overlap.masked (overlap x0 x1 R p) (base x1 x2 R) (Ideal.div (overlap x0 x1 R p - base x1 x2 R) (base x1 x2 R))

/-- how many rows' numbers, scaled to the bins' width, fall into bin `k` -/
def count (f : Fin 8192 → EReal) (k : ℕ) : EReal := ∑ R, if Bins.bin (f R) = BitVec.ofNat 32 k then (1 : EReal) else 0

/-- how many of all overlaps fall into bin `k` -/
def allCount (x0 : Boxes) (x1 : Rows) (k : ℕ) : EReal :=
  ∑ R, ∑ p, if Bins.bin (overlap x0 x1 R p * Ideal.ofBits .f32 0x42480000#32) = BitVec.ofNat 32 k then (1 : EReal) else 0

/-- a number between 0 and 1, scaled to fifty bins -/
def unit (y : EReal) : EReal := (y - Ideal.ofBits .f32 0x00000000#32) * Ideal.ofBits .f32 0x42480000#32

/-- a number between -1 and 1, scaled to fifty bins -/
def signed (y : EReal) : EReal := (y - Ideal.ofBits .f32 0xBF800000#32) * Ideal.ofBits .f32 0x41C80000#32

/-- the mean of a row's overlaps, with the division by 512 as a product -/
def mean (x0 : Boxes) (x1 : Rows) (R : Fin 8192) : EReal :=
  (∑ p, overlap x0 x1 R p) * Ideal.ofBits .f32 0x3B000000#32

/-- the mean of a row's ten greatest overlaps, by peeling -/
def topTen (x0 : Boxes) (x1 : Rows) (R : Fin 8192) : EReal :=
  Ideal.div (Peel.rounds (overlap x0 x1 R) 10).2.2 (Ideal.ofBits .f32 0x41200000#32)

end Cert.Formula

end

end
-- ==== Proof.Arrays.lean ====
/- The kernel's seven output arrays after its run, at an index, as the formulas of the three argument arrays. -/
module

public import proofs.«01_k».proof.Proof.Points
public import proofs.«01_k».proof.Proof.Formula

@[expose] public section

set_option maxRecDepth 16384

noncomputable section

namespace Cert.Arrays

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- the three argument arrays -/
abbrev X0 : Formula.Boxes := m ((c : Thread nD τ).loc main_arg0)
abbrev X1 : Formula.Rows := m ((c : Thread nD τ).loc main_arg1)
abbrev X2 : Formula.Rows := m ((c : Thread nD τ).loc main_arg2)

/-- where the windows' blocks stand: block `t` of every tiled array holds the rows from `256 t` on -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- row `r` of block `t`, as a row of the arrays -/
def row (t : Fin cfg0.N) (r : Fin 256) : Fin 8192 :=
  ⟨t.val * 256 + r.val, by have h : t.val < 32 := t.isLt; have := r.isLt; omega⟩

/-- what the host line leaves in the array of corner 0s -/
theorem plane0 (R : Fin 8192) (p : Fin 512) :
    (Gen.V m c main_v2 : FVec Ideal S8192x512 .f32) (ix2 R p) = X0 m c (ix3 R p (0 : Fin 4)) := by
  have e : (Gen.V m c main_v2 : FVec Ideal S8192x512 .f32) = shapeCast S8192x512 (extractStridedSlice S1x8192x512 ![0, 0, 0]
      (transpose S4x8192x512 [2, 0, 1] (X0 m c) transposes_S8192x512x4_S4x8192x512_2_0_1) slices_S4x8192x512_S1x8192x512_0_0_0)
      shapeCasts_S1x8192x512_S8192x512 := by
    unfold Gen.V Gen.V0
    simp only [hostOps0, List.flatten_cons, List.flatten_nil, List.append_nil, List.cons_append, List.nil_append]
    after_results
    rfl
  rw [e]
  pointwise

theorem corner0 (r : Fin 256) (p : Fin 512) :
    (iblk m c 0 t : FVec Ideal S256x512 .f32) (ix2 r p) = X0 m c (ix3 (row t r) p (0 : Fin 4)) := by
  refine Eq.trans ?_ (plane0 m c (row t r) p)
  blk_ext [iblk, idx t, row]

/-- what the host line leaves in the array of corner 1s -/
theorem plane1 (R : Fin 8192) (p : Fin 512) :
    (Gen.V m c main_v4 : FVec Ideal S8192x512 .f32) (ix2 R p) = X0 m c (ix3 R p (1 : Fin 4)) := by
  have e : (Gen.V m c main_v4 : FVec Ideal S8192x512 .f32) = shapeCast S8192x512 (extractStridedSlice S1x8192x512 ![1, 0, 0]
      (transpose S4x8192x512 [2, 0, 1] (X0 m c) transposes_S8192x512x4_S4x8192x512_2_0_1) slices_S4x8192x512_S1x8192x512_1_0_0)
      shapeCasts_S1x8192x512_S8192x512 := by
    unfold Gen.V Gen.V0
    simp only [hostOps0, List.flatten_cons, List.flatten_nil, List.append_nil, List.cons_append, List.nil_append]
    after_results
    rfl
  rw [e]
  pointwise

theorem corner1 (r : Fin 256) (p : Fin 512) :
    (iblk m c 1 t : FVec Ideal S256x512 .f32) (ix2 r p) = X0 m c (ix3 (row t r) p (1 : Fin 4)) := by
  refine Eq.trans ?_ (plane1 m c (row t r) p)
  blk_ext [iblk, idx t, row]

/-- what the host line leaves in the array of corner 2s -/
theorem plane2 (R : Fin 8192) (p : Fin 512) :
    (Gen.V m c main_v6 : FVec Ideal S8192x512 .f32) (ix2 R p) = X0 m c (ix3 R p (2 : Fin 4)) := by
  have e : (Gen.V m c main_v6 : FVec Ideal S8192x512 .f32) = shapeCast S8192x512 (extractStridedSlice S1x8192x512 ![2, 0, 0]
      (transpose S4x8192x512 [2, 0, 1] (X0 m c) transposes_S8192x512x4_S4x8192x512_2_0_1) slices_S4x8192x512_S1x8192x512_2_0_0)
      shapeCasts_S1x8192x512_S8192x512 := by
    unfold Gen.V Gen.V0
    simp only [hostOps0, List.flatten_cons, List.flatten_nil, List.append_nil, List.cons_append, List.nil_append]
    after_results
    rfl
  rw [e]
  pointwise

theorem corner2 (r : Fin 256) (p : Fin 512) :
    (iblk m c 2 t : FVec Ideal S256x512 .f32) (ix2 r p) = X0 m c (ix3 (row t r) p (2 : Fin 4)) := by
  refine Eq.trans ?_ (plane2 m c (row t r) p)
  blk_ext [iblk, idx t, row]

/-- what the host line leaves in the array of corner 3s -/
theorem plane3 (R : Fin 8192) (p : Fin 512) :
    (Gen.V m c main_v8 : FVec Ideal S8192x512 .f32) (ix2 R p) = X0 m c (ix3 R p (3 : Fin 4)) := by
  have e : (Gen.V m c main_v8 : FVec Ideal S8192x512 .f32) = shapeCast S8192x512 (extractStridedSlice S1x8192x512 ![3, 0, 0]
      (transpose S4x8192x512 [2, 0, 1] (X0 m c) transposes_S8192x512x4_S4x8192x512_2_0_1) slices_S4x8192x512_S1x8192x512_3_0_0)
      shapeCasts_S1x8192x512_S8192x512 := by
    unfold Gen.V Gen.V0
    simp only [hostOps0, List.flatten_cons, List.flatten_nil, List.append_nil, List.cons_append, List.nil_append]
    after_results
    rfl
  rw [e]
  pointwise

theorem corner3 (r : Fin 256) (p : Fin 512) :
    (iblk m c 3 t : FVec Ideal S256x512 .f32) (ix2 r p) = X0 m c (ix3 (row t r) p (3 : Fin 4)) := by
  refine Eq.trans ?_ (plane3 m c (row t r) p)
  blk_ext [iblk, idx t, row]

/-- a point's ground truths -/
theorem ground (r : Fin 256) (k : Fin 4) : (iblk m c 4 t : FVec Ideal S256x4 .f32) (ix2 r k) = X1 m c (ix2 (row t r) k) := by
  blk_ext [iblk, V, idx t, row]

/-- a point's merged boxes -/
theorem merged (r : Fin 256) (k : Fin 4) : (iblk m c 5 t : FVec Ideal S256x4 .f32) (ix2 r k) = X2 m c (ix2 (row t r) k) := by
  blk_ext [iblk, V, idx t, row]

/-- a point's overlaps -/
theorem V_at (r : Fin 256) (p : Fin 512) :
    Points.V m c t (ix2 r p) = Formula.overlap (X0 m c) (X1 m c) (row t r) p := by
  unfold Points.V
  rw [Block.iouB_apply, corner0, corner1, corner2, corner3, ground, ground, ground, ground]
  rfl

/-- a point's overlaps of ground truths with merged boxes -/
theorem S_at (r : Fin 256) :
    Points.S m c t (ix2 r (0 : Fin 1)) = Formula.base (X1 m c) (X2 m c) (row t r) := by
  unfold Points.S
  rw [Block.sB_apply, ground, ground, ground, ground, merged, merged, merged, merged]
  rfl

/-- a point's block of masked differences -/
theorem minus_block (r : Fin 256) (p : Fin 512) :
    Block.minusB (iblk m c 0 t) (iblk m c 1 t) (iblk m c 2 t) (iblk m c 3 t) (iblk m c 4 t) (iblk m c 5 t) (ix2 r p)
      = Formula.minus (X0 m c) (X1 m c) (X2 m c) (row t r) p := by
  rw [Block.minusB_apply]
  show Overlap.masked (Points.V m c t _) (Points.S m c t _) (Points.V m c t _ - Points.S m c t _) = _
  rw [V_at, S_at]
  rfl

/-- a point's block of masked relative differences -/
theorem norm_block (r : Fin 256) (p : Fin 512) :
    Block.normB (iblk m c 0 t) (iblk m c 1 t) (iblk m c 2 t) (iblk m c 3 t) (iblk m c 4 t) (iblk m c 5 t) (ix2 r p)
      = Formula.norm (X0 m c) (X1 m c) (X2 m c) (row t r) p := by
  rw [Block.normB_apply]
  show Overlap.masked (Points.V m c t _) (Points.S m c t _) (Ideal.div (Points.V m c t _ - Points.S m c t _) (Points.S m c t _)) = _
  rw [V_at, S_at]
  rfl

/-- the array of masked differences -/
theorem minus_array : (dats m 0 c).arrAt 6 cfg0.N
    = fun i : S8192x512.Idx => Formula.minus (X0 m c) (X1 m c) (X2 m c) (i 0) (i 1) := by
  refine (dats m 0 c).arrAt_eq_of_covers 6 _ (by decide +kernel) fun t _ y => ?_
  blk_simp
  rw [Points.minus_at]
  refine ((congrArg _ (eq_ix2 (show S256x512.Idx from y))).trans (minus_block m c t (y 0) (y 1))).trans ?_
  refine congrArg₂ (Formula.minus (X0 m c) (X1 m c) (X2 m c)) (Fin.ext ?_) (Fin.ext ?_)
  · blk_simp [idx t, row]
  · blk_simp [idx t, row]

/-- the array of masked relative differences -/
theorem norm_array : (dats m 0 c).arrAt 7 cfg0.N
    = fun i : S8192x512.Idx => Formula.norm (X0 m c) (X1 m c) (X2 m c) (i 0) (i 1) := by
  refine (dats m 0 c).arrAt_eq_of_covers 7 _ (by decide +kernel) fun t _ y => ?_
  blk_simp
  rw [Points.norm_at]
  refine ((congrArg _ (eq_ix2 (show S256x512.Idx from y))).trans (norm_block m c t (y 0) (y 1))).trans ?_
  refine congrArg₂ (Formula.norm (X0 m c) (X1 m c) (X2 m c)) (Fin.ext ?_) (Fin.ext ?_)
  · blk_simp [idx t, row]
  · blk_simp [idx t, row]

/-- the rows of the blocks are the rows of the arrays -/
theorem sum_rows (g : Fin 8192 → EReal) : ∑ t : Fin cfg0.N, ∑ r : Fin 256, g (row t r) = ∑ R, g R :=
  (Fin.sum_univ_tiles 32 256 rfl g).symm

/-- a row of bins that each point adds its own count to holds, at the last point, all the points' counts -/
theorem sum_points (f : (n : ℕ) → n < cfg0.N → FVec Ideal S1x64 .f32) (term : Fin cfg0.N → FVec Ideal S1x64 .f32)
    (first : ∀ t : Fin cfg0.N, t.val % 32 = 0 → f t.val t.isLt = addf Points.zeros (term t))
    (next : ∀ t : Fin cfg0.N, ¬ t.val % 32 = 0 →
      f t.val t.isLt = addf (f (t.val - 1) (Nat.lt_of_le_of_lt (Nat.sub_le _ _) t.isLt)) (term t))
    (t : Fin cfg0.N) (ht : t.val + 1 = cfg0.N) (l : Fin 64) :
    f t.val t.isLt (ix2 (0 : Fin 1) l) = ∑ p : Fin cfg0.N, term p (ix2 (0 : Fin 1) l) := by
  have z : ∀ j, Points.zeros j = (0 : EReal) := fun j => by
    show Ideal.ofBits .f32 0x00000000#32 = 0
    rw [Words.zero]; rfl
  have := Pipeline.eq_sum_fin_of_reset_step_apply_last (M := EReal) f 32 (fun _ => 0) term
    (fun t h j => by rw [first t h]; show Points.zeros j + term t j = _; rw [z])
    (fun t h j => by rw [next t h]; rfl)
    (le_of_eq N_0) t ht (ix2 (0 : Fin 1) l)
  rw [this, zero_add]

/-- a point's counts of a column, as counts of array rows -/
theorem count_rows (d e : BitVec 32) (y : Fin cfg0.N → FVec Ideal S256x1 .f32) (f : Fin 8192 → EReal)
    (h : ∀ t r, y t (ix2 r (0 : Fin 1)) = f (row t r)) (l : Fin 64) :
    ∑ t : Fin cfg0.N, Block.colCount d e (y t) (ix2 (0 : Fin 1) l)
      = Formula.count (fun R => (f R - Ideal.ofBits .f32 d) * Ideal.ofBits .f32 e) l := by
  unfold Formula.count
  rw [← sum_rows]
  refine Finset.sum_congr rfl fun t _ => ?_
  rw [Block.colCount_apply]
  refine Finset.sum_congr rfl fun r _ => ?_
  rw [h]

/-- lane `l` of the second row of bins: the rows whose greatest overlap falls into bin `l` -/
theorem maxs_array (l : Fin 64) : ((dats m 0 c).arrAt 9 cfg0.N : FVec Ideal S1x64 .f32) (ix2 (0 : Fin 1) l)
    = Formula.count (fun R => Formula.unit (Peel.top (Formula.overlap (X0 m c) (X1 m c) R))) l := by
  obtain ⟨t, ht, hw⟩ : ∃ t : Fin cfg0.N, t.val + 1 = cfg0.N ∧ (cfg0.win 9).WholeAt t := ⟨⟨31, by decide⟩, rfl, by decide +kernel⟩
  have e : (dats m 0 c).arrAt 9 cfg0.N = (outsAt0 m c t.val t.isLt).2.2.2.1 := by
    refine (dats m 0 c).arrAt_eq_of_after_last 9 t hw _ fun j => ?_
    blk_simp
    rw [after0_9]
  rw [e]
  refine (sum_points (fun n h => (outsAt0 m c n h).2.2.2.1) (Points.maxs m c) (Points.maxs_first m c) (Points.maxs_next m c)
    t ht l).trans ?_
  refine count_rows _ _ _ (fun R => Peel.top (Formula.overlap (X0 m c) (X1 m c) R)) (fun t r => ?_) l
  rw [Rounds.peak_apply]
  simp only [V_at]

/-- lane `l` of the third row of bins: the rows whose mean overlap falls into bin `l` -/
theorem means_array (l : Fin 64) : ((dats m 0 c).arrAt 10 cfg0.N : FVec Ideal S1x64 .f32) (ix2 (0 : Fin 1) l)
    = Formula.count (fun R => Formula.unit (Formula.mean (X0 m c) (X1 m c) R)) l := by
  obtain ⟨t, ht, hw⟩ : ∃ t : Fin cfg0.N, t.val + 1 = cfg0.N ∧ (cfg0.win 10).WholeAt t := ⟨⟨31, by decide⟩, rfl, by decide +kernel⟩
  have e : (dats m 0 c).arrAt 10 cfg0.N = (outsAt0 m c t.val t.isLt).2.2.2.2.1 := by
    refine (dats m 0 c).arrAt_eq_of_after_last 10 t hw _ fun j => ?_
    blk_simp
    rw [after0_10]
  rw [e]
  refine (sum_points (fun n h => (outsAt0 m c n h).2.2.2.2.1) (Points.means m c) (Points.means_first m c) (Points.means_next m c)
    t ht l).trans ?_
  refine count_rows _ _ _ (fun R => Formula.mean (X0 m c) (X1 m c) R) (fun t r => ?_) l
  rw [Block.meanB_apply]
  show (∑ p, Points.V m c t _) * _ = _
  simp only [V_at]
  rfl

/-- lane `l` of the fourth row of bins: the rows whose merged box's overlap falls into bin `l` -/
theorem gts_array (l : Fin 64) : ((dats m 0 c).arrAt 11 cfg0.N : FVec Ideal S1x64 .f32) (ix2 (0 : Fin 1) l)
    = Formula.count (fun R => Formula.signed (Formula.base (X1 m c) (X2 m c) R)) l := by
  obtain ⟨t, ht, hw⟩ : ∃ t : Fin cfg0.N, t.val + 1 = cfg0.N ∧ (cfg0.win 11).WholeAt t := ⟨⟨31, by decide⟩, rfl, by decide +kernel⟩
  have e : (dats m 0 c).arrAt 11 cfg0.N = (outsAt0 m c t.val t.isLt).2.2.2.2.2.1 := by
    refine (dats m 0 c).arrAt_eq_of_after_last 11 t hw _ fun j => ?_
    blk_simp
    rw [after0_11]
  rw [e]
  refine (sum_points (fun n h => (outsAt0 m c n h).2.2.2.2.2.1) (Points.gts m c) (Points.gts_first m c) (Points.gts_next m c)
    t ht l).trans ?_
  refine count_rows _ _ _ (fun R => Formula.base (X1 m c) (X2 m c) R) (fun t r => ?_) l
  exact S_at m c t r

/-- lane `l` of the fifth row of bins: the rows whose mean of the ten greatest overlaps falls into bin `l` -/
theorem tops_array (l : Fin 64) : ((dats m 0 c).arrAt 12 cfg0.N : FVec Ideal S1x64 .f32) (ix2 (0 : Fin 1) l)
    = Formula.count (fun R => Formula.unit (Formula.topTen (X0 m c) (X1 m c) R)) l := by
  obtain ⟨t, ht, hw⟩ : ∃ t : Fin cfg0.N, t.val + 1 = cfg0.N ∧ (cfg0.win 12).WholeAt t := ⟨⟨31, by decide⟩, rfl, by decide +kernel⟩
  have e : (dats m 0 c).arrAt 12 cfg0.N = (outsAt0 m c t.val t.isLt).2.2.2.2.2.2 := by
    refine (dats m 0 c).arrAt_eq_of_after_last 12 t hw _ fun j => ?_
    blk_simp
    rw [after0_12]
  rw [e]
  refine (sum_points (fun n h => (outsAt0 m c n h).2.2.2.2.2.2) (Points.tops m c) (Points.tops_first m c) (Points.tops_next m c)
    t ht l).trans ?_
  refine count_rows _ _ _ (fun R => Formula.topTen (X0 m c) (X1 m c) R) (fun t r => ?_) l
  rw [Rounds.topB_apply]
  simp only [V_at]
  rfl

/-- lane `l` of the first row of bins: all overlaps that fall into bin `l` -/
theorem all_array (l : Fin 64) (hl : l.val < 50) : ((dats m 0 c).arrAt 8 cfg0.N : FVec Ideal S1x64 .f32) (ix2 (0 : Fin 1) l)
    = Formula.allCount (X0 m c) (X1 m c) l := by
  obtain ⟨t, ht, hw⟩ : ∃ t : Fin cfg0.N, t.val + 1 = cfg0.N ∧ (cfg0.win 8).WholeAt t := ⟨⟨31, by decide⟩, rfl, by decide +kernel⟩
  have e : (dats m 0 c).arrAt 8 cfg0.N = (outsAt0 m c t.val t.isLt).2.2.1 := by
    refine (dats m 0 c).arrAt_eq_of_after_last 8 t hw _ fun j => ?_
    blk_simp
    rw [after0_8]
  rw [e]
  refine (sum_points (fun n h => (outsAt0 m c n h).2.2.1) (Points.all m c) (Points.all_first m c) (Points.all_next m c)
    t ht l).trans ?_
  unfold Formula.allCount
  rw [← sum_rows]
  refine Finset.sum_congr rfl fun t _ => ?_
  unfold Points.all
  rw [Lanes.chain_apply _ _ _ (le_refl 50), if_pos hl, Lanes.total_apply]
  refine Finset.sum_congr rfl fun r _ => Finset.sum_congr rfl fun p _ => ?_
  rw [Block.bins_apply, V_at]

end Cert.Arrays

end

end
-- ==== Proof.Tail.lean ====
/- The five histogram results: the kernel's host code cuts the first fifty lanes of each accumulator array after the
   launch, so each result holds, lane by lane, what the array holds. -/
module

public import proofs.«01_k».proof.Proof.Arrays
public import Idealize.ShloMosaic.Lib.Claim

@[expose] public section

set_option maxRecDepth 16384

noncomputable section

namespace Cert.Tail

open Cert.KernelIdeal Cert.KernelIdeal.Gen Idealize.ShloMosaic Idealize.ShloMosaic.TcCoe Idealize.SL.Sem

variable (m : (ℓ : Loc nD τ sig) → Buf (Elt Ideal) ℓ) (c : Dev nD)

/-- lane `k` of fifty among the sixty-four lanes -/
def lane (k : Fin 50) : Fin 64 := k.castLE (by decide)

/-- the first fifty lanes of an accumulator row, as the host code cuts them out -/
def cut (x : FVec Ideal S1x64 .f32) : FVec Ideal S50 .f32 :=
  shapeCast S50 (extractStridedSlice S1x50 ![0, 0] x slices_S1x64_S1x50_0_0) shapeCasts_S1x50_S50

theorem cut_apply (x : FVec Ideal S1x64 .f32) (k : Fin 50) : cut x (ix1 k) = x (ix2 0 (lane k)) := by
  unfold lane
  pointwise [cut]
  rfl

/-- what a buffer holds once the host code after the launch has run -/
abbrev left (b : Ref sig .tc) := Pipeline.afterTail₀ cfgs (dats m) 0 (V0 m) [hostOps1] c b

/-- the array of window `w` is untouched by the host code before it is cut -/
theorem array (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 launch0.win.arr_inj c (V0 m c) (fun w => (dats m 0 c).arrAt w cfg0.N) w

/-- result `main_v11` is the first fifty lanes of window 8's array -/
theorem left11 : left m c main_v11 = cut ((dats m 0 c).arrAt 8 cfg0.N) := by
  unfold left Pipeline.afterTail₀
  simp only [hostOps1, List.flatten_cons, List.flatten_nil, List.append_nil, List.cons_append, List.nil_append]
  after_results
  exact congrArg cut (array m c 8)

/-- result `main_v13` is the first fifty lanes of window 9's array -/
theorem left13 : left m c main_v13 = cut ((dats m 0 c).arrAt 9 cfg0.N) := by
  unfold left Pipeline.afterTail₀
  simp only [hostOps1, List.flatten_cons, List.flatten_nil, List.append_nil, List.cons_append, List.nil_append]
  after_results
  exact congrArg cut (array m c 9)

/-- result `main_v15` is the first fifty lanes of window 10's array -/
theorem left15 : left m c main_v15 = cut ((dats m 0 c).arrAt 10 cfg0.N) := by
  unfold left Pipeline.afterTail₀
  simp only [hostOps1, List.flatten_cons, List.flatten_nil, List.append_nil, List.cons_append, List.nil_append]
  after_results
  exact congrArg cut (array m c 10)

/-- result `main_v17` is the first fifty lanes of window 11's array -/
theorem left17 : left m c main_v17 = cut ((dats m 0 c).arrAt 11 cfg0.N) := by
  unfold left Pipeline.afterTail₀
  simp only [hostOps1, List.flatten_cons, List.flatten_nil, List.append_nil, List.cons_append, List.nil_append]
  after_results
  exact congrArg cut (array m c 11)

/-- result `main_v19` is the first fifty lanes of window 12's array -/
theorem left19 : left m c main_v19 = cut ((dats m 0 c).arrAt 12 cfg0.N) := by
  unfold left Pipeline.afterTail₀
  simp only [hostOps1, List.flatten_cons, List.flatten_nil, List.append_nil, List.cons_append, List.nil_append]
  after_results
  exact congrArg cut (array m c 12)

end Cert.Tail

end

end
-- ==== Proof.RefRead.lean ====
/- The reference's overlaps and its two masked maps, at an index, as the formulas of its three arguments. -/
module

public import proofs.«01_k».proof.Proof.Gen.ReferenceIdeal.Read
public import proofs.«01_k».proof.Proof.Formula
public import Idealize.ShloMosaic.Lib.Pointwise

@[expose] public section

set_option maxRecDepth 16384

noncomputable section

namespace Cert.RefRead

open Cert.ReferenceIdeal Cert.ReferenceIdeal.Gen Idealize.ShloMosaic

variable (x0 : Formula.Boxes) (x1 x2 : Formula.Rows)

/-- the lower end of the reference's clip -/
theorem floor : (id (constant (F := Ideal) S_ .f32 0x00000000#32) ix0 : EReal) = 0 := Ideal.ofBits_zero_f32

/-- the overlap with the clip at zero written the other way round -/
theorem clipped {z a0 a1 a2 a3 b0 b1 b2 b3 : EReal} (hz : z = 0) :
    Ideal.div (max z (min a2 b2 - max a0 b0) * max z (min a3 b3 - max a1 b1))
      (max ((a2 - a0) * (a3 - a1) + (b2 - b0) * (b3 - b1)
          - max z (min a2 b2 - max a0 b0) * max z (min a3 b3 - max a1 b1))
        (Ideal.ofBits .f32 0x358637BD#32)) = Overlap.iou a0 a1 a2 a3 b0 b1 b2 b3 := by
  rw [hz, max_comm 0, max_comm 0]
  rfl

set_option maxHeartbeats 4000000 in
/-- the reference's overlap of box `p` of row `R` with the row's ground truth -/
theorem overlap_at (R : Fin 8192) (p : Fin 512) : Read.val_main_v43 (F := Ideal) x0 x1 (ix2 R p) = Formula.overlap x0 x1 R p := by
  pointwise [Read.val_main_cst, Read.val_main_call0_v0, Read.val_main_call0_v1, Read.val_main_v7, Read.val_main_v2, Read.val_main_v3, Read.val_main_v8,
    Read.val_main_v9, Read.val_main_v4, Read.val_main_v5, Read.val_main_v6, Read.val_main_v10, Read.val_main_v11, Read.val_main_v12,
    Read.val_main_v13, Read.val_main_v14, Read.val_main_v15, Read.val_main_v16, Read.val_main_v17, Read.val_main_v18, Read.val_main_v19,
    Read.val_main_v20, Read.val_main_v21, Read.val_main_v22, Read.val_main_v23, Read.val_main_v24, Read.val_main_v25, Read.val_main_v26,
    Read.val_main_v27, Read.val_main_v28, Read.val_main_v29, Read.val_main_v30, Read.val_main_v31, Read.val_main_v32, Read.val_main_v33,
    Read.val_main_v34, Read.val_main_v35, Read.val_main_v36, Read.val_main_v37, Read.val_main_v38, Read.val_main_v39, Read.val_main_v40,
    Read.val_main_cst_0, Read.val_main_v41, Read.val_main_v42, Read.val_main_v43]
  exact clipped floor

set_option maxHeartbeats 4000000 in
/-- the reference's overlap of row `R`'s ground truth with its merged box, the same in every column -/
theorem base_at (R : Fin 8192) (p : Fin 512) : Read.val_main_v83 (F := Ideal) x1 x2 (ix2 R p) = Formula.base x1 x2 R := by
  pointwise [Read.val_main_cst_1, Read.val_main_call1_v0, Read.val_main_call1_v1, Read.val_main_v2, Read.val_main_v3, Read.val_main_v47, Read.val_main_v0,
    Read.val_main_v1, Read.val_main_v48, Read.val_main_v49, Read.val_main_v44, Read.val_main_v45, Read.val_main_v46, Read.val_main_v50,
    Read.val_main_v51, Read.val_main_v52, Read.val_main_v53, Read.val_main_v54, Read.val_main_v55, Read.val_main_v56, Read.val_main_v57,
    Read.val_main_v58, Read.val_main_v59, Read.val_main_v60, Read.val_main_v61, Read.val_main_v62, Read.val_main_v63, Read.val_main_v64,
    Read.val_main_v65, Read.val_main_v66, Read.val_main_v67, Read.val_main_v68, Read.val_main_v69, Read.val_main_v70, Read.val_main_v71,
    Read.val_main_v72, Read.val_main_v73, Read.val_main_v74, Read.val_main_v75, Read.val_main_v76, Read.val_main_v77, Read.val_main_v78,
    Read.val_main_v79, Read.val_main_v80, Read.val_main_cst_2, Read.val_main_v81, Read.val_main_v82, Read.val_main_v83]
  exact clipped floor

/-- the reference's sixth result at an index -/
theorem minus_at (R : Fin 8192) (p : Fin 512) : Read.val_main_v281 (F := Ideal) x0 x1 x2 (ix2 R p) = Formula.minus x0 x1 x2 R p := by
  pointwise [Read.val_main_cst_47, Read.val_main_v276, Read.val_main_v277, Read.val_main_cst_48, Read.val_main_v278, Read.val_main_v279, Read.val_main_v280,
    Read.val_main_cst_49, Read.val_main_call7_v0, Read.val_main_call7_v1, Read.val_main_v91, Read.val_main_v281]
  rw [overlap_at, base_at]
  exact Overlap.select_masked _ _ _

/-- the reference's seventh result at an index -/
theorem norm_at (R : Fin 8192) (p : Fin 512) : Read.val_main_v282 (F := Ideal) x0 x1 x2 (ix2 R p) = Formula.norm x0 x1 x2 R p := by
  pointwise [Read.val_main_cst_47, Read.val_main_v276, Read.val_main_v277, Read.val_main_cst_48, Read.val_main_v278, Read.val_main_v279, Read.val_main_v280,
    Read.val_main_cst_50, Read.val_main_call8_v0, Read.val_main_call8_v1, Read.val_main_v91, Read.val_main_v92, Read.val_main_v282]
  rw [overlap_at, base_at]
  exact Overlap.select_masked _ _ _

end Cert.RefRead

end

end
-- ==== Proof.TopSort.lean ====
/- The reference's ten greatest of a row: they are the first ten of the row sorted downwards. -/
module

public import proofs.«01_k».proof.Proof.RefRead
public import Idealize.ShloMosaic.Lib.SortFacts

@[expose] public section

set_option maxRecDepth 16384

noncomputable section

namespace Cert.TopSort

open Cert.ReferenceIdeal Cert.ReferenceIdeal.Gen Idealize.ShloMosaic

/-- the order by which the reference sorts: `a` comes before `b` -/
def before (a b : EReal) : BitVec 1 := FloatOps.cmpfTotal (F := Ideal) (φ := .f32) .gt a b

theorem before_iff (a b : EReal) : (before a b == 1#1) = decide (b < a) := by
  show (BitVec.ofBool (decide (b < a)) == 1#1) = _
  by_cases h : b < a <;> simp [h]

variable {n : ℕ} (f : Fin n → EReal)

/-- the place a sorted position of the numbers `f` is taken from -/
def source : Fin n → Fin n := sortedFrom fun k k' => before (f k) (f k') == 1#1

theorem source_bijective : Function.Bijective (source f) := ⟨sortedFrom_injective _, sortedFrom_surjective _⟩

/-- the sorted numbers go downwards -/
theorem source_le {i j : Fin n} (h : i ≤ j) : f (source f j) ≤ f (source f i) := by
  rcases h.eq_or_lt with rfl | h
  · exact le_rfl
  · have := sortedFrom_noInversion (fun k k' => decide (f k' < f k)) (fun k k' => before (f k) (f k') == 1#1)
      (by intro a b; simp only [before_iff, decide_eq_true_eq, decide_eq_false_iff_not, not_lt]; exact le_of_lt)
      (by intro a b; simp only [before_iff]; exact id)
      (by intro a b c; simp only [decide_eq_false_iff_not, not_lt]; exact fun p q => p.trans q) i j h
    exact not_lt.1 (of_decide_eq_false this)

theorem along_eq (j : S8192x512.Idx) (k : Fin 512) : j.along (1 : Fin 2) k = ix2 (j 0) k := by
  funext a
  match a with
  | 0 => rfl
  | 1 => rfl

/-- a row sorted downwards, at an index -/
theorem sorted_apply (x : FVec Ideal S8192x512 .f32) (y : IVec S8192x512 32) (j : S8192x512.Idx) :
    (Host.sort2 S8192x512 1 (fun l r => before l.1 r.1) x y).1 j
      = x (ix2 (j 0) (source (fun k : Fin 512 => x (ix2 (j 0) k)) (j 1))) := by
  have h : (Host.sort2 S8192x512 1 (fun l r => before l.1 r.1) x y).1 j
      = x (j.along (1 : Fin 2) (sortedFrom (fun k k' : Fin 512 => before (x (j.along (1 : Fin 2) k)) (x (j.along (1 : Fin 2) k')) == 1#1) (j 1))) := rfl
  rw [h]
  simp only [along_eq]
  exact congrArg x (along_eq j _)

/-- the reference's `k`-th greatest of row `R` is the `k`-th of the sorted row -/
theorem topK_apply (x : FVec Ideal S8192x512 .f32) (R : Fin 8192) (k : Fin 10) :
    (Host.topK S8192x10 1 (FloatOps.cmpfTotal (F := Ideal) (φ := .f32) .gt) x sliceFits_S8192x512_S8192x10).1 (ix2 R k)
      = x (ix2 R (source (fun p : Fin 512 => x (ix2 R p)) (k.castLE (by decide)))) := by
  unfold Host.topK
  refine (sorted_apply x (fun i => if hd : 1 < S8192x512.rank then iotaInDim S8192x512 32 ⟨1, hd⟩ i else 0#32) _).trans ?_
  have h0 : ∀ q : Fin 8192, q.val = 0 + R.val → q = R := fun q h => Fin.ext (h.trans (Nat.zero_add _))
  have h1 : ∀ q : Fin 512, q.val = 0 + k.val → q = k.castLE (by decide) := fun q h => Fin.ext (h.trans (Nat.zero_add _))
  have key : ∀ (a : Fin 8192) (b : Fin 512), a = R → b = k.castLE (by decide) →
      x (ix2 a (source (fun p : Fin 512 => x (ix2 a p)) b)) = x (ix2 R (source (fun p : Fin 512 => x (ix2 R p)) (k.castLE (by decide)))) := by
    rintro a b rfl rfl; rfl
  exact key _ _ (h0 _ rfl) (h1 _ rfl)

end Cert.TopSort

end

end
-- ==== Proof.Columns.lean ====
/- The four numbers that the reference counts of every row, as the formulas, and their range: where every overlap of a row is a real
   number between 0 and 1, so are the row's greatest, its mean and the mean of its ten greatest. -/
module

public import proofs.«01_k».proof.Proof.RefRead
public import proofs.«01_k».proof.Proof.TopSort
public import Idealize.ShloMosaic.Lib.Pointwise

@[expose] public section

set_option maxRecDepth 16384

noncomputable section

namespace Cert.Columns

open Cert.ReferenceIdeal Cert.ReferenceIdeal.Gen Idealize.ShloMosaic

variable (x0 : Formula.Boxes) (x1 x2 : Formula.Rows) (R : Fin 8192)

/-- a real number between 0 and 1 -/
def InUnit (y : EReal) : Prop := ∃ v : ℝ, 0 ≤ v ∧ v ≤ 1 ∧ y = (v : EReal)

theorem coe_sum {ι : Type} (t : Finset ι) (f : ι → ℝ) : ((∑ i ∈ t, f i : ℝ) : EReal) = ∑ i ∈ t, (f i : EReal) :=
  map_sum (⟨⟨Real.toEReal, EReal.coe_zero⟩, EReal.coe_add⟩ : ℝ →+ EReal) f t

/-- the reference's column of the greatest overlaps -/
theorem max_at : Read.val_main_v149 (F := Ideal) x0 x1 (ix2 R (0 : Fin 1)) = Peel.top (Formula.overlap x0 x1 R) := by
  pointwise [Read.val_main_cst_5, Read.val_main_v87, Read.val_main_v149]
  simp only [RefRead.overlap_at]
  rw [Words.negInf]
  rfl

/-- the reference's column of the means -/
theorem mean_at : Read.val_main_v185 (F := Ideal) x0 x1 (ix2 R (0 : Fin 1)) = Formula.mean x0 x1 R := by
  pointwise [Read.val_main_cst_6, Read.val_main_v88, Read.val_main_cst_7, Read.val_main_v89, Read.val_main_v90, Read.val_main_v185]
  simp only [RefRead.overlap_at]
  rw [Words.fiveTwelve, Ideal.div_coe (by norm_num)]
  unfold Formula.mean
  rw [Words.inv512]

/-- the reference's column of the means of the ten greatest, as a sum of the ten greatest -/
theorem top_sum : Read.val_main_v259 (F := Ideal) x0 x1 (ix2 R (0 : Fin 1))
    = Ideal.div (∑ k : Fin 10, Formula.overlap x0 x1 R (TopSort.source (Formula.overlap x0 x1 R) (k.castLE (by decide)))) (Ideal.ofBits .f32 0x41200000#32) := by
  pointwise [Read.val_main_cst_3, Read.val_main_v84, Read.val_main_cst_4, Read.val_main_v85, Read.val_main_v86, Read.val_main_v259]
  unfold Read.val_main_values
  simp only [TopSort.topK_apply, RefRead.overlap_at]

/-- the reference's column of the overlaps with the merged box -/
theorem base_at : Read.val_main_v223 (F := Ideal) x1 x2 (ix2 R (0 : Fin 1)) = Formula.base x1 x2 R := by
  pointwise [Read.val_main_v202, Read.val_main_v203, Read.val_main_v223]
  exact RefRead.base_at x1 x2 R _

section range

variable {x0 x1 x2 R} (h : ∀ p, InUnit (Formula.overlap x0 x1 R p))
include h

theorem max_unit : InUnit (Peel.top (Formula.overlap x0 x1 R)) := by
  obtain ⟨k, _, hk⟩ := Finset.exists_max_image Finset.univ (Formula.overlap x0 x1 R) ⟨0, Finset.mem_univ _⟩
  rw [Peel.top_eq (fun j => hk j (Finset.mem_univ j)) k rfl]
  exact h k

theorem mean_unit : InUnit (Formula.mean x0 x1 R) := by
  choose v v0 v1 hv using h
  refine ⟨(∑ p, v p) * (1 / 512), by have := Finset.sum_nonneg fun p (_ : p ∈ Finset.univ) => v0 p; positivity, ?_, ?_⟩
  · have : ∑ p, v p ≤ ∑ _p : Fin 512, (1 : ℝ) := Finset.sum_le_sum fun p _ => v1 p
    rw [Finset.sum_const, Finset.card_univ, Fintype.card_fin] at this
    norm_num at this
    linarith
  · unfold Formula.mean
    simp only [hv]
    rw [Words.inv512, ← coe_sum, ← EReal.coe_mul]

/-- the reference's ten greatest and the kernel's peeled ones have the same mean, a real number between 0 and 1 -/
theorem top_both : ∃ v : ℝ, 0 ≤ v ∧ v ≤ 1 ∧ Formula.topTen x0 x1 R = (v : EReal)
    ∧ Read.val_main_v259 (F := Ideal) x0 x1 (ix2 R (0 : Fin 1)) = (v : EReal) := by
  choose v v0 v1 hv using h
  let s : ℕ → ℝ := fun j => if hj : j < 512 then v (TopSort.source (Formula.overlap x0 x1 R) ⟨j, hj⟩) else 0
  have s0 : ∀ j, 0 ≤ s j := by
    intro j; simp only [s]; split
    · exact v0 _
    · exact le_rfl
  have s1 : ∀ j, s j ≤ 1 := by
    intro j; simp only [s]; split
    · exact v1 _
    · exact zero_le_one
  have anti : Antitone s := by
    intro i j hij
    by_cases hj : j < 512
    · have := TopSort.source_le (Formula.overlap x0 x1 R) (i := ⟨i, hij.trans_lt hj⟩) (j := ⟨j, hj⟩) hij
      rw [hv, hv, EReal.coe_le_coe_iff] at this
      simpa only [s, dif_pos hj, dif_pos (hij.trans_lt hj)] using this
    · simp only [s, dif_neg hj]; exact s0 i
  have hs : ∀ j : Fin 512, Formula.overlap x0 x1 R (TopSort.source (Formula.overlap x0 x1 R) j) = (s j : EReal) := by
    intro j; rw [hv]; simp only [s, dif_pos j.isLt]
  have ten : ∑ k : Fin 10, Formula.overlap x0 x1 R (TopSort.source (Formula.overlap x0 x1 R) (k.castLE (by decide)))
      = ((∑ j ∈ Finset.range 10, s j : ℝ) : EReal) := by
    rw [Finset.sum_range, coe_sum]
    exact Finset.sum_congr rfl fun k _ => hs _
  refine ⟨(∑ j ∈ Finset.range 10, s j) * (1 / 10), ?_, ?_, ?_, ?_⟩
  · have := Finset.sum_nonneg fun j (_ : j ∈ Finset.range 10) => s0 j
    positivity
  · have : ∑ j ∈ Finset.range 10, s j ≤ ∑ _j ∈ Finset.range 10, (1 : ℝ) := Finset.sum_le_sum fun j _ => s1 j
    rw [Finset.sum_const, Finset.card_range] at this
    norm_num at this
    linarith
  · unfold Formula.topTen
    rw [Peel.rounds_ten (TopSort.source_bijective _) anti s0 hs, Words.ten, Ideal.div_coe (by norm_num), ← EReal.coe_mul]
  · rw [top_sum, ten, Words.ten, Ideal.div_coe (by norm_num), ← EReal.coe_mul]

end range

end Cert.Columns

end

end
-- ==== Proof.RefHist.lean ====
/- The reference's histogram read at a bin: the number of values that lie between the bin's two edges. One statement
   serves the histogram of all overlaps and the four of one value per row. -/
module

public import proofs.«01_k».proof.Proof.Bins
public import proofs.«01_k».proof.Proof.Gen.ReferenceIdeal.Read

@[expose] public section

set_option maxRecDepth 16384

noncomputable section

namespace Cert.RefHist

open Idealize.ShloMosaic Cert.ReferenceIdeal Cert.ReferenceIdeal.Gen

/-- The fifty-one edges between the two float words `lo` and `hi`, as the reference computes them. -/
def edges (lo hi : BitVec 32) : FVec Ideal S51 .f32 :=
  addf
    (mulf (broadcastInDim S51 ![] bcast_S_S51 (constant S_ .f32 lo))
      (subf (broadcastInDim S51 ![] bcast_S_S51 (constant S_ .f32 0x3F800000#32))
        (Host.divf (sitofp .f32 (iotaInDim S51 32 0)) (broadcastInDim S51 ![] bcast_S_S51 (constant S_ .f32 0x42480000#32)))))
    (mulf (broadcastInDim S51 ![] bcast_S_S51 (constant S_ .f32 hi))
      (Host.divf (sitofp .f32 (iotaInDim S51 32 0)) (broadcastInDim S51 ![] bcast_S_S51 (constant S_ .f32 0x42480000#32))))

/-- Edge `k` divides the way from `lo` to `hi` in the ratio of `k` to fifty. -/
theorem edges_apply {lo hi : BitVec 32} {l h : ℝ} (hl : Ideal.ofBits .f32 lo = (l : EReal)) (hh : Ideal.ofBits .f32 hi = (h : EReal))
    (k : Fin 51) : edges lo hi (ix1 k) = ((l * (1 - k / 50) + h * (k / 50) : ℝ) : EReal) := by
  pointwise [edges]
  have hk : (BitVec.ofNat 32 (k : ℕ)).toInt = (k : ℤ) := by
    rw [BitVec.toInt_ofNat']
    have := k.isLt
    simp only [Int.bmod]
    omega
  have hs : FloatOps.sitofp (F := Ideal) .f32 (BitVec.ofNat 32 (k : ℕ)) = (((k : ℕ) : ℝ) : EReal) := by
    show ((((BitVec.ofNat 32 (k : ℕ)).toInt : ℝ)) : EReal) = _
    rw [hk, Int.cast_natCast]
  rw [hs, hl, hh, Words.fifty, Ideal.div_coe (by norm_num), ← EReal.coe_one]
  simp only [← EReal.coe_mul, ← EReal.coe_sub, ← EReal.coe_add]
  congr 1
  ring

/-- One where a column's value lies in a bin, else zero, for a column of `N` values and fifty bins. -/
def inside {N : ℕ} (he : S1x50.BroadcastsInDim ⟨2, ![N, 50]⟩ ![0, 1]) (hx : (⟨2, ![N, 1]⟩ : Shape).BroadcastsInDim ⟨2, ![N, 50]⟩ ![0, 1])
    (hc : S_.BroadcastsInDim ⟨2, ![N, 50]⟩ (![] : Fin 0 → Fin 2))
    (e : FVec Ideal S51 .f32) (x : FVec Ideal ⟨2, ![N, 1]⟩ .f32) : FVec Ideal ⟨2, ![N, 50]⟩ .f32 :=
    (id (select
      (andi
        (cmpf .ole
          (broadcastInDim ⟨2, ![N, 50]⟩ ![0, 1] he (broadcastInDim S1x50 ![1] bcast_S50_S1x50_1 (extractStridedSlice S50 ![0] e slices_S51_S50_0)))
          (broadcastInDim ⟨2, ![N, 50]⟩ ![0, 1] hx x))
        (ori
          (cmpf .olt (broadcastInDim ⟨2, ![N, 50]⟩ ![0, 1] hx x)
            (broadcastInDim ⟨2, ![N, 50]⟩ ![0, 1] he (broadcastInDim S1x50 ![1] bcast_S50_S1x50_1 (extractStridedSlice S50 ![1] e slices_S51_S50_1))))
          (andi
            (broadcastInDim ⟨2, ![N, 50]⟩ ![0, 1] he
              (broadcastInDim S1x50 ![1] bcast_S50_S1x50_1
                (cmpi .eq (iotaInDim S50 32 0) (broadcastInDim S50 ![] bcast_S_S50 (constantI S_ 32 49#32)))))
            (cmpf .oeq (broadcastInDim ⟨2, ![N, 50]⟩ ![0, 1] hx x)
              (broadcastInDim ⟨2, ![N, 50]⟩ ![0, 1] he (broadcastInDim S1x50 ![1] bcast_S50_S1x50_1 (extractStridedSlice S50 ![1] e slices_S51_S50_1)))))))
      (broadcastInDim ⟨2, ![N, 50]⟩ ![] hc (constant S_ .f32 0x3F800000#32))
      (broadcastInDim ⟨2, ![N, 50]⟩ ![] hc (constant S_ .f32 0x00000000#32))))

/-- The reference's histogram of a column of `N` values against fifty-one edges. -/
def hist {N : ℕ} (he : S1x50.BroadcastsInDim ⟨2, ![N, 50]⟩ ![0, 1]) (hx : (⟨2, ![N, 1]⟩ : Shape).BroadcastsInDim ⟨2, ![N, 50]⟩ ![0, 1])
    (hc : S_.BroadcastsInDim ⟨2, ![N, 50]⟩ (![] : Fin 0 → Fin 2)) (hr : (⟨2, ![N, 50]⟩ : Shape).ReducesTo [0] S50)
    (e : FVec Ideal S51 .f32) (x : FVec Ideal ⟨2, ![N, 1]⟩ .f32) : FVec Ideal S50 .f32 :=
  Host.reduceAdd (inside he hx hc e x) (constant S_ .f32 0x00000000#32) hr h_S_

/-- A choice by the bits of a compound test is the choice by the test. -/
theorem select_test (p q r s : Prop) [Decidable p] [Decidable q] [Decidable r] [Decidable s] :
    Scalar.select (IntOp.andi (BitVec.ofBool (decide p)) (IntOp.ori (BitVec.ofBool (decide q))
        (IntOp.andi (BitVec.ofBool (decide r)) (BitVec.ofBool (decide s))))) (1 : EReal) 0
      = if p ∧ (q ∨ r ∧ s) then 1 else 0 := by
  by_cases hp : p <;> by_cases hq : q <;> by_cases hr : r <;> by_cases hs : s <;>
    simp [hp, hq, hr, hs, IntOp.andi, IntOp.ori, Scalar.select]

/-- The entry of row `r` and bin `k`: from edge `k` on and below edge `k + 1`, where the last bin takes its upper edge too. -/
theorem inside_apply {N : ℕ} (he : S1x50.BroadcastsInDim ⟨2, ![N, 50]⟩ ![0, 1])
    (hx : (⟨2, ![N, 1]⟩ : Shape).BroadcastsInDim ⟨2, ![N, 50]⟩ ![0, 1])
    (hc : S_.BroadcastsInDim ⟨2, ![N, 50]⟩ (![] : Fin 0 → Fin 2))
    (e : FVec Ideal S51 .f32) (x : FVec Ideal ⟨2, ![N, 1]⟩ .f32) (r : Fin N) (k : Fin 50) :
    inside he hx hc e x (ix2 r k)
      = if e (ix1 k.castSucc) ≤ x (ix2 r 0) ∧ (x (ix2 r 0) < e (ix1 k.succ) ∨ (k : ℕ) = 49 ∧ x (ix2 r 0) = e (ix1 k.succ))
          then (1 : EReal) else 0 := by
  have row : ∀ {α : Type} (y : S1x50.Idx → α), broadcastInDim ⟨2, ![N, 50]⟩ ![0, 1] he y (ix2 r k) = y (ix2 0 k) := fun y =>
    broadcastInDim_apply _ he y _ _ fun a => by fin_cases a <;> rfl
  have col : broadcastInDim ⟨2, ![N, 50]⟩ ![0, 1] hx x (ix2 r k) = x (ix2 r 0) :=
    broadcastInDim_apply _ hx x _ _ fun a => by
      fin_cases a
      · show (r : ℕ) = if N = 1 then 0 else (r : ℕ)
        have := r.isLt
        split <;> omega
      · rfl
  have one : ∀ b : BitVec 32, broadcastInDim ⟨2, ![N, 50]⟩ ![] hc (constant (F := Ideal) S_ .f32 b) (ix2 r k) = Ideal.ofBits .f32 b :=
    fun b => rfl
  unfold inside
  simp only [id_eq]
  show Scalar.select (IntOp.andi (FloatOps.cmpf .ole _ _) (IntOp.ori (FloatOps.cmpf .olt _ _) (IntOp.andi _ (FloatOps.cmpf .oeq _ _)))) _ _ = _
  rw [row, row, row, col, one, one]
  pointwise
  have e0 : (⟨(k : ℕ), by omega⟩ : Fin 51) = k.castSucc := rfl
  have e1 : (⟨1 + (k : ℕ), by omega⟩ : Fin 51) = k.succ := Fin.ext (Nat.add_comm 1 _)
  have e49 : IntOp.cmpi .eq (BitVec.ofNat 32 (k : ℕ)) 49#32 = BitVec.ofBool (decide ((k : ℕ) = 49)) := by
    exact (by decide : ∀ k : Fin 50, IntOp.cmpi .eq (BitVec.ofNat 32 (k : ℕ)) 49#32 = BitVec.ofBool (decide ((k : ℕ) = 49))) k
  rw [e0, e1, e49]
  exact select_test _ _ _ _

/-- At bin `k` the histogram is the number of rows whose value lies from edge `k` on and below edge `k + 1`; the last
    bin takes its upper edge too. -/
theorem hist_apply {N : ℕ} (he : S1x50.BroadcastsInDim ⟨2, ![N, 50]⟩ ![0, 1])
    (hx : (⟨2, ![N, 1]⟩ : Shape).BroadcastsInDim ⟨2, ![N, 50]⟩ ![0, 1])
    (hc : S_.BroadcastsInDim ⟨2, ![N, 50]⟩ (![] : Fin 0 → Fin 2)) (hr : (⟨2, ![N, 50]⟩ : Shape).ReducesTo [0] S50)
    (hr' : (⟨2, ![N, 50]⟩ : Shape).Reduces [0] S50)
    (e : FVec Ideal S51 .f32) (x : FVec Ideal ⟨2, ![N, 1]⟩ .f32) (k : Fin 50) :
    hist he hx hc hr e x (ix1 k)
      = ∑ r : Fin N, if e (ix1 k.castSucc) ≤ x (ix2 r 0) ∧ (x (ix2 r 0) < e (ix1 k.succ) ∨ (k : ℕ) = 49 ∧ x (ix2 r 0) = e (ix1 k.succ))
          then (1 : EReal) else 0 := by
  unfold hist
  simp only [Host.reduceAdd, Ideal.hostReduceAdd_def]
  rw [Ideal.hostReduceAdd_single hr hr']
  have h0 : (constant (F := Ideal) S_ .f32 0x00000000#32) (Shape.Idx.first h_S_) = 0 := Ideal.ofBits_zero_f32
  rw [h0, zero_add]
  refine Finset.sum_congr rfl fun r _ => ?_
  have hi : hr'.lift (ix1 k) r = ix2 r k := by
    funext a; fin_cases a <;> rfl
  exact (congrArg _ hi).trans (inside_apply he hx hc e x r k)

/-- On reals between the outer edges `l` and `h` the histogram counts the rows whose scaled value has bin number `k`. -/
theorem hist_bins {N : ℕ} (he : S1x50.BroadcastsInDim ⟨2, ![N, 50]⟩ ![0, 1])
    (hx : (⟨2, ![N, 1]⟩ : Shape).BroadcastsInDim ⟨2, ![N, 50]⟩ ![0, 1])
    (hc : S_.BroadcastsInDim ⟨2, ![N, 50]⟩ (![] : Fin 0 → Fin 2)) (hr : (⟨2, ![N, 50]⟩ : Shape).ReducesTo [0] S50)
    (hr' : (⟨2, ![N, 50]⟩ : Shape).Reduces [0] S50)
    {lo hi : BitVec 32} {l h : ℝ} (hl : Ideal.ofBits .f32 lo = (l : EReal)) (hh : Ideal.ofBits .f32 hi = (h : EReal)) (hlh : l < h)
    (x : FVec Ideal ⟨2, ![N, 1]⟩ .f32) (v : Fin N → ℝ) (hv : ∀ r, x (ix2 r 0) = (v r : EReal)) (v0 : ∀ r, l ≤ v r)
    (v1 : ∀ r, v r ≤ h) (k : Fin 50) :
    hist he hx hc hr (edges lo hi) x (ix1 k)
      = ∑ r : Fin N, if Bins.bin (((v r - l) * (50 / (h - l)) : ℝ) : EReal) = BitVec.ofNat 32 (k : ℕ) then (1 : EReal) else 0 := by
  rw [hist_apply he hx hc hr hr']
  refine Finset.sum_congr rfl fun r _ => if_congr ?_ rfl rfl
  have d : 0 < h - l := sub_pos.2 hlh
  have sc : (v r - l) * (50 / (h - l)) = (v r - l) * 50 / (h - l) := (mul_div_assoc _ _ _).symm
  have low : ∀ t : ℝ, l * (1 - t / 50) + h * (t / 50) ≤ v r ↔ t ≤ (v r - l) * (50 / (h - l)) := fun t => by
    rw [sc, le_div_iff₀ d]
    constructor <;> intro q <;> nlinarith
  have upp : ∀ t : ℝ, v r < l * (1 - t / 50) + h * (t / 50) ↔ (v r - l) * (50 / (h - l)) < t := fun t => by
    rw [sc, div_lt_iff₀ d]
    constructor <;> intro q <;> nlinarith
  have y0 : 0 ≤ (v r - l) * (50 / (h - l)) := mul_nonneg (sub_nonneg.2 (v0 r)) (by positivity)
  have y1 : (v r - l) * (50 / (h - l)) ≤ 50 := by
    rw [sc, div_le_iff₀ d]
    nlinarith [v1 r]
  have eqq : ∀ t : ℝ, v r = l * (1 - t / 50) + h * (t / 50) ↔ (v r - l) * (50 / (h - l)) = t := fun t => by
    rw [sc, div_eq_iff d.ne']
    constructor <;> intro q <;> nlinarith
  rw [Bins.bin_iff y0 y1 k.isLt, hv r, edges_apply hl hh, edges_apply hl hh, EReal.coe_le_coe_iff, EReal.coe_lt_coe_iff,
    EReal.coe_eq_coe_iff, low, upp, eqq]
  simp only [Fin.val_castSucc, Fin.val_succ, Nat.cast_add, Nat.cast_one]

end Cert.RefHist

end
-- ==== Proof.Histograms.lean ====
/- The reference's five histograms are the formulas' counts, where every counted number is a real number between 0 and 1. -/
module

public import proofs.«01_k».proof.Proof.Columns
public import proofs.«01_k».proof.Proof.RefHist

@[expose] public section

set_option maxRecDepth 16384

noncomputable section

namespace Cert.Histograms

open Cert.ReferenceIdeal Cert.ReferenceIdeal.Gen Idealize.ShloMosaic Cert.Columns

/-- A real number, scaled from between `0` and `1` to fifty bins. -/
theorem unit_coe (v : ℝ) : Formula.unit (v : EReal) = (((v - 0) * (50 / (1 - 0)) : ℝ) : EReal) := by
  unfold Formula.unit
  rw [Words.zero, Words.fifty, ← EReal.coe_sub, ← EReal.coe_mul]
  norm_num

/-- A real number, scaled from between `-1` and `1` to fifty bins. -/
theorem signed_coe (v : ℝ) : Formula.signed (v : EReal) = (((v - -1) * (50 / (1 - -1)) : ℝ) : EReal) := by
  unfold Formula.signed
  rw [Words.negOne, Words.twentyFive, ← EReal.coe_sub, ← EReal.coe_mul]
  norm_num

variable (x : FVec Ideal S8192x1 .f32) (f : Fin 8192 → EReal) (k : Fin 50)

/-- The reference's histogram between `0` and `1` of a column of such numbers. -/
theorem unit_hist (hx : ∀ R, x (ix2 R 0) = f R) (hf : ∀ R, InUnit (f R)) :
    RefHist.hist bcast_S1x50_S8192x50_0_1 bcast_S8192x1_S8192x50_0_1 bcast_S_S8192x50 reducesTo_S8192x50_S50_d0
        (RefHist.edges 0x00000000#32 0x3F800000#32) x (ix1 k)
      = Formula.count (fun R => Formula.unit (f R)) k := by
  choose v v0 v1 hv using hf
  rw [RefHist.hist_bins _ _ _ _ (by decide) Words.zero Words.one zero_lt_one x v (fun R => (hx R).trans (hv R)) v0 v1]
  unfold Formula.count
  simp only [hv, unit_coe]

/-- The reference's histogram between `-1` and `1` of a column of numbers between `0` and `1`. -/
theorem signed_hist (hx : ∀ R, x (ix2 R 0) = f R) (hf : ∀ R, InUnit (f R)) :
    RefHist.hist bcast_S1x50_S8192x50_0_1 bcast_S8192x1_S8192x50_0_1 bcast_S_S8192x50 reducesTo_S8192x50_S50_d0
        (RefHist.edges 0xBF800000#32 0x3F800000#32) x (ix1 k)
      = Formula.count (fun R => Formula.signed (f R)) k := by
  choose v v0 v1 hv using hf
  rw [RefHist.hist_bins _ _ _ _ (by decide) Words.negOne Words.one (by norm_num) x v (fun R => (hx R).trans (hv R))
    (fun R => by linarith [v0 R]) v1]
  unfold Formula.count
  simp only [hv, signed_coe]

variable (x0 : Formula.Boxes) (x1 x2 : Formula.Rows)

/-- The column of all overlaps: entry `R * 512 + p` is the overlap of box `p` of row `R`. -/
theorem flat_at (r : Fin 4194304) (R : Fin 8192) (p : Fin 512) (h : r.val = R.val * 512 + p.val) :
    Read.val_main_v113 (F := Ideal) x0 x1 (ix2 r (0 : Fin 1)) = Formula.overlap x0 x1 R p := by
  rw [Read.val_main_v113_apply, Read.val_main_v93_apply, ← RefRead.overlap_at]
  refine congrArg _ (funext fun a => Fin.ext ?_)
  have hp := p.isLt
  match a with
  | ⟨0, _⟩ => show r.val / 512 = R.val; omega
  | ⟨1, _⟩ => show r.val % 512 = p.val; omega

variable (h : ∀ R p, InUnit (Formula.overlap x0 x1 R p))
include h

/-- the first result -/
theorem all_hist : Read.val_main_v129 (F := Ideal) x0 x1 (ix1 k) = Formula.allCount x0 x1 k := by
  choose v v0 v1 hv using h
  let R : Fin 4194304 → Fin 8192 := fun r => ⟨r.val / 512, by have := r.isLt; omega⟩
  let p : Fin 4194304 → Fin 512 := fun r => ⟨r.val % 512, by omega⟩
  refine (RefHist.hist_bins bcast_S1x50_S4194304x50_0_1 bcast_S4194304x1_S4194304x50_0_1 bcast_S_S4194304x50 reducesTo_S4194304x50_S50_d0
    (by decide) Words.zero Words.one zero_lt_one (Read.val_main_v113 (F := Ideal) x0 x1) (fun r => v (R r) (p r))
    (fun r => (flat_at x0 x1 r (R r) (p r) (by show r.val = r.val / 512 * 512 + r.val % 512; omega)).trans (hv _ _))
    (fun r => v0 _ _) (fun r => v1 _ _) k).trans ?_
  rw [Fin.sum_univ_tiles 8192 512 rfl]
  unfold Formula.allCount
  refine Finset.sum_congr rfl fun a _ => Finset.sum_congr rfl fun b _ => ?_
  have ha : ∀ hlt, R ⟨a.val * 512 + b.val, hlt⟩ = a := fun _ => Fin.ext (by show (a.val * 512 + b.val) / 512 = a.val; have := b.isLt; omega)
  have hb : ∀ hlt, p ⟨a.val * 512 + b.val, hlt⟩ = b := fun _ => Fin.ext (by show (a.val * 512 + b.val) % 512 = b.val; have := b.isLt; omega)
  rw [ha, hb, hv, Words.fifty, ← EReal.coe_mul, sub_zero, sub_zero, div_one]

/-- the second result -/
theorem max_hist : Read.val_main_v165 (F := Ideal) x0 x1 (ix1 k)
    = Formula.count (fun R => Formula.unit (Peel.top (Formula.overlap x0 x1 R))) k :=
  unit_hist (Read.val_main_v149 (F := Ideal) x0 x1) _ k (max_at x0 x1) fun R => max_unit (h R)

/-- the third result -/
theorem mean_hist : Read.val_main_v201 (F := Ideal) x0 x1 (ix1 k)
    = Formula.count (fun R => Formula.unit (Formula.mean x0 x1 R)) k :=
  unit_hist (Read.val_main_v185 (F := Ideal) x0 x1) _ k (mean_at x0 x1) fun R => mean_unit (h R)

/-- the fifth result -/
theorem top_hist : Read.val_main_v275 (F := Ideal) x0 x1 (ix1 k)
    = Formula.count (fun R => Formula.unit (Formula.topTen x0 x1 R)) k :=
  unit_hist (Read.val_main_v259 (F := Ideal) x0 x1) _ k
    (fun R => by obtain ⟨v, _, _, a, b⟩ := top_both (h R); exact b.trans a.symm)
    fun R => by obtain ⟨v, v0, v1, a, _⟩ := top_both (h R); exact ⟨v, v0, v1, a⟩

omit h

/-- the fourth result -/
theorem base_hist (h : ∀ R, InUnit (Formula.base x1 x2 R)) : Read.val_main_v239 (F := Ideal) x1 x2 (ix1 k)
    = Formula.count (fun R => Formula.signed (Formula.base x1 x2 R)) k :=
  signed_hist (Read.val_main_v223 (F := Ideal) x1 x2) _ k (base_at x1 x2) h

end Cert.Histograms

end

end
-- ==== Proof.Finite.lean ====
/- What the precondition says of the arguments: the boxes of the second argument have real corners. Every overlap that the kernel
   computes is one with such a box, so it is a real number between 0 and 1. -/
module

public import proofs.«01_k».proof.Pre_gt_finite
public import proofs.«01_k».proof.Proof.Formula
public import proofs.«01_k».proof.Proof.Columns
public import Idealize.ShloMosaic.Lib.Pointwise

@[expose] public section

set_option maxRecDepth 16384

noncomputable section

namespace Cert.Finite

open Cert.Pre_gt_finite Idealize.ShloMosaic Cert.Columns

/-- the test of one corner -/
def test (a : EReal) : BitVec 1 :=
  IntOp.andi (BitVec.ofBool (decide (Ideal.ofBits .f32 0xFF800000#32 < a))) (BitVec.ofBool (decide (a < Ideal.ofBits .f32 0x7F800000#32)))

/-- a corner that passes the test is real -/
theorem real {a : EReal} (h : test a = 1#1) : ∃ u : ℝ, a = u := by
  have both : ⊥ < a ∧ a < ⊤ := by
    unfold test at h
    rw [Words.negInf, Words.posInf] at h
    by_cases p : ⊥ < a <;> by_cases q : a < ⊤ <;> simp_all [IntOp.andi]
  lift a to ℝ using ⟨both.2.ne, both.1.ne'⟩
  exact ⟨a, rfl⟩

variable [Facts] (x0 : Formula.Boxes) (x1 x2 : Formula.Rows)

/-- the precondition at an index -/
theorem fn_apply (R : Fin 8192) (k : Fin 4) : fn (F := Ideal) x0 x1 x2 (ix2 R k) = test (x1 (ix2 R k)) := by
  pointwise [fn]
  rfl

variable {x0 x1 x2}

/-- under the precondition each corner of the second argument is real -/
theorem corner (h : fn (F := Ideal) x0 x1 x2 = fun _ => 1#1) (R : Fin 8192) (k : Fin 4) : ∃ u : ℝ, x1 (ix2 R k) = u :=
  real ((fn_apply x0 x1 x2 R k).symm.trans (congrFun h (ix2 R k)))

/-- any box overlaps a box of real corners in a real number between 0 and 1 -/
theorem iou_unit (a0 a1 a2 a3 : EReal) {b0 b1 b2 b3 : EReal} (h0 : ∃ u : ℝ, b0 = u) (h1 : ∃ u : ℝ, b1 = u) (h2 : ∃ u : ℝ, b2 = u)
    (h3 : ∃ u : ℝ, b3 = u) : InUnit (Overlap.iou a0 a1 a2 a3 b0 b1 b2 b3) := by
  obtain ⟨_, rfl⟩ := h0
  obtain ⟨_, rfl⟩ := h1
  obtain ⟨_, rfl⟩ := h2
  obtain ⟨_, rfl⟩ := h3
  exact Overlap.iou_range a0 a1 a2 a3 _ _ _ _

theorem overlap_unit (h : fn (F := Ideal) x0 x1 x2 = fun _ => 1#1) (R : Fin 8192) (p : Fin 512) : InUnit (Formula.overlap x0 x1 R p) :=
  iou_unit _ _ _ _ (corner h R 0) (corner h R 1) (corner h R 2) (corner h R 3)

theorem base_unit (h : fn (F := Ideal) x0 x1 x2 = fun _ => 1#1) (R : Fin 8192) : InUnit (Formula.base x1 x2 R) := by
  unfold Formula.base
  rw [Overlap.iou_comm]
  exact iou_unit _ _ _ _ (corner h R 0) (corner h R 1) (corner h R 2) (corner h R 3)

end Cert.Finite

end

end
-- ==== Proof.Value.lean ====
/- The kernel's seven results are the reference's, where the boxes of the second argument have real corners. -/
module

public import proofs.«01_k».proof.Defs
public import proofs.«01_k».proof.Proof.Tail
public import proofs.«01_k».proof.Proof.Histograms
public import proofs.«01_k».proof.Proof.Finite
public import proofs.«01_k».proof.Proof.RefRun
public import Idealize.ShloMosaic.Lib.Claim

@[expose] public section

set_option maxRecDepth 16384

noncomputable section

namespace Cert.Value

open Idealize.ShloMosaic Idealize.ShloMosaic.TcCoe Idealize.SL.Sem Cert.ReferenceIdeal

variable (m : (ℓ : Loc Cert.KernelIdeal.nD Cert.KernelIdeal.τ Cert.KernelIdeal.sig) → Buf (Elt Ideal) ℓ) (c : Dev Cert.KernelIdeal.nD)

/-- a histogram result equals an accumulator's first fifty lanes where they agree bin by bin -/
theorem cut_eq (x : FVec Ideal Cert.KernelIdeal.S1x64 .f32) (y : FVec Ideal Cert.KernelIdeal.S50 .f32)
    (h : ∀ k : Fin 50, y (ix1 k) = x (ix2 0 (Tail.lane k))) : y = Tail.cut x := by
  funext i
  exact (congrArg y (eq_ix1 i)).trans (((h (i 0)).trans (Tail.cut_apply x (i 0)).symm).trans (congrArg _ (eq_ix1 i).symm))

/-- a map equals an output array where they agree entry by entry -/
theorem map_eq (f : Fin 8192 → Fin 512 → EReal) (y : FVec Ideal Cert.KernelIdeal.S8192x512 .f32)
    (h : ∀ R p, y (ix2 R p) = f R p) : y = fun i : Cert.KernelIdeal.S8192x512.Idx => f (i 0) (i 1) := by
  funext i
  exact (congrArg y (eq_ix2 i)).trans (h (i 0) (i 1))

/-- the sixth result, for all arguments -/
theorem minus : Read.val_main_v281 (F := Ideal) (Arrays.X0 m c) (Arrays.X1 m c) (Arrays.X2 m c)
    = (Cert.KernelIdeal.Gen.dats m 0 c).arrAt 6 Cert.KernelIdeal.cfg0.N :=
  (map_eq (Formula.minus (Arrays.X0 m c) (Arrays.X1 m c) (Arrays.X2 m c)) _ (RefRead.minus_at _ _ _)).trans (Arrays.minus_array m c).symm

/-- the seventh result, for all arguments -/
theorem norm : Read.val_main_v282 (F := Ideal) (Arrays.X0 m c) (Arrays.X1 m c) (Arrays.X2 m c)
    = (Cert.KernelIdeal.Gen.dats m 0 c).arrAt 7 Cert.KernelIdeal.cfg0.N :=
  (map_eq (Formula.norm (Arrays.X0 m c) (Arrays.X1 m c) (Arrays.X2 m c)) _ (RefRead.norm_at _ _ _)).trans (Arrays.norm_array m c).symm

section histograms

variable [Cert.Pre_gt_finite.Facts]
  (h : Cert.Pre_gt_finite.fn (F := Ideal) (Arrays.X0 m c) (Arrays.X1 m c) (Arrays.X2 m c) = fun _ => 1#1)
include h

/-- the first result -/
theorem all : Read.val_main_v129 (F := Ideal) (Arrays.X0 m c) (Arrays.X1 m c) = Tail.left m c Cert.KernelIdeal.main_v11 :=
  (cut_eq _ _ fun k => (Histograms.all_hist k _ _ (Finite.overlap_unit h)).trans (Arrays.all_array m c (Tail.lane k) k.isLt).symm).trans
    (Tail.left11 m c).symm

/-- the second result -/
theorem maxs : Read.val_main_v165 (F := Ideal) (Arrays.X0 m c) (Arrays.X1 m c) = Tail.left m c Cert.KernelIdeal.main_v13 :=
  (cut_eq _ _ fun k => (Histograms.max_hist k _ _ (Finite.overlap_unit h)).trans (Arrays.maxs_array m c (Tail.lane k)).symm).trans
    (Tail.left13 m c).symm

/-- the third result -/
theorem means : Read.val_main_v201 (F := Ideal) (Arrays.X0 m c) (Arrays.X1 m c) = Tail.left m c Cert.KernelIdeal.main_v15 :=
  (cut_eq _ _ fun k => (Histograms.mean_hist k _ _ (Finite.overlap_unit h)).trans (Arrays.means_array m c (Tail.lane k)).symm).trans
    (Tail.left15 m c).symm

/-- the fourth result -/
theorem bases : Read.val_main_v239 (F := Ideal) (Arrays.X1 m c) (Arrays.X2 m c) = Tail.left m c Cert.KernelIdeal.main_v17 :=
  (cut_eq _ _ fun k => (Histograms.base_hist k _ _ (Finite.base_unit h)).trans (Arrays.gts_array m c (Tail.lane k)).symm).trans
    (Tail.left17 m c).symm

/-- the fifth result -/
theorem tops : Read.val_main_v275 (F := Ideal) (Arrays.X0 m c) (Arrays.X1 m c) = Tail.left m c Cert.KernelIdeal.main_v19 :=
  (cut_eq _ _ fun k => (Histograms.top_hist k _ _ (Finite.overlap_unit h)).trans (Arrays.tops_array m c (Tail.lane k)).symm).trans
    (Tail.left19 m c).symm

end histograms

/-- The claim of equal results: kernel and reference, run from memories that agree on the arguments, end with the same five histograms
    and the same two maps, where the boxes of the second argument have real corners. -/
theorem algebraic [Cert.Pre_gt_finite.Facts] : Cert.algebraic_KernelIdeal_ReferenceIdeal_pre_gt_finite := by
  pair_intro
  · run_from Cert.KernelIdeal.Gen.run_main m g
    exact Cert.KernelIdeal.Gen.W_main_arg0 m _ c
  · refine (θ_run _ _ _).mono (fun r h c => ?_) (Cert.RefRun.run m' g')
    obtain ⟨a0, a1, a2⟩ := hagree c
    refine ⟨?_, ?_, ?_, ?_, ?_, ?_, ?_, (h c).2.2.2.2.2.2.2⟩
    · refine (h c).1.trans ?_
      rw [a0, a1]
      exact all m c (hpre c)
    · refine (h c).2.1.trans ?_
      rw [a0, a1]
      exact maxs m c (hpre c)
    · refine (h c).2.2.1.trans ?_
      rw [a0, a1]
      exact means m c (hpre c)
    · refine (h c).2.2.2.1.trans ?_
      rw [a1, a2]
      exact bases m c (hpre c)
    · refine (h c).2.2.2.2.1.trans ?_
      rw [a0, a1]
      exact tops m c (hpre c)
    · refine (h c).2.2.2.2.2.1.trans ?_
      rw [a0, a1, a2]
      exact minus m c
    · refine (h c).2.2.2.2.2.2.1.trans ?_
      rw [a0, a1, a2]
      exact norm m c

end Cert.Value

end

end
-- ==== Proof.lean ====
/- The certificate: both programs and their idealizations run, leave their arguments unchanged and every semaphore at zero, and the
   kernel's seven results are the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem

/-- The shape facts that the precondition's operations take. -/
theorem finite : Cert.Pre_gt_finite.Facts where
  bcast_S_S8192x4 := by decide

/-- The reference ends with its arguments as launched; it has no semaphore. -/
theorem reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2.2.2.2.2, sem_eq_zero_of_no_sems (by decide) r.2⟩) (Cert.RefRun.run m g)

theorem claim : Cert.Claim :=
  ⟨Cert.Kernel.Gen.facts, Cert.KernelIdeal.Gen.facts, Cert.ReferenceIdeal.Gen.facts, finite,
    fun m g _ => Cert.Kernel.Gen.frame m g, fun m g _ => Cert.KernelIdeal.Gen.frame m g,
    fun m g _ => Cert.KernelIdeal.Gen.frame m g, fun m g _ => reference m g, fun m g _ => reference m g, trivial,
    have := finite
    Cert.Value.algebraic⟩

end Cert.Proof

end

end
